-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S32 : Shape := ⟨1, ![32]⟩
abbrev S_ : Shape := ⟨0, ![]⟩
abbrev S1 : Shape := ⟨1, ![1]⟩
abbrev S3 : Shape := ⟨1, ![3]⟩
abbrev S2048x2048 : Shape := ⟨2, ![2048, 2048]⟩
abbrev S2x64x2048 : Shape := ⟨3, ![2, 64, 2048]⟩
abbrev S2 : Shape := ⟨1, ![2]⟩
abbrev S64x1024 : Shape := ⟨2, ![64, 1024]⟩
abbrev S64x2048 : Shape := ⟨2, ![64, 2048]⟩
abbrev S1x64x2048 : Shape := ⟨3, ![1, 64, 2048]⟩

abbrev nBuf : Space → Nat
  | .hbm => 74
  | .vmem => 5
  | .smem => 1
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i1⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i1⟩
  | .hbm, ⟨58, _⟩ => ⟨S_, .i1⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S1, .i32⟩
  | .hbm, ⟨72, _⟩ => ⟨S3, .i32⟩
  | .hbm, ⟨73, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S2x64x2048, .bf16⟩
  | .local _ .vmem, ⟨4, _⟩ => ⟨S2x64x2048, .bf16⟩
  | .local _ .smem, ⟨0, _⟩ => ⟨S3, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 3 12 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_c_1 : Ref sig .tc := ⟨.hbm, 26, rfl⟩
abbrev main_call0_v4 : Ref sig .tc := ⟨.hbm, 27, rfl⟩
abbrev main_call0_c_2 : Ref sig .tc := ⟨.hbm, 28, rfl⟩
abbrev main_call0_v5 : Ref sig .tc := ⟨.hbm, 29, rfl⟩
abbrev main_call0_c_3 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v11 : Ref sig .tc := ⟨.hbm, 35, rfl⟩
abbrev main_c_7 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_c_10 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_c_2 : Ref sig .tc := ⟨.hbm, 54, rfl⟩
abbrev main_call1_v5 : Ref sig .tc := ⟨.hbm, 55, rfl⟩
abbrev main_call1_c_3 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_v18 : Ref sig .tc := ⟨.hbm, 61, rfl⟩
abbrev main_c_11 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_off1 (v0 : BitVec 32) : Fin 2 → Nat :=
  let c64_i32 : BitVec 32 := 64#32
  let v6 : BitVec 32 := Scalar.muli v0 c64_i32
  let v7 : Index := Scalar.indexCast v6
  let c0_2 : Index := 0#32
  ![v7.toNat, 0]

def k0_dev2 (v2 : BitVec 32) : Nat :=
  let c0_i32_13 : BitVec 32 := 0#32
  let c1_i32_12 : BitVec 32 := 1#32
  let v17 : BitVec 32 := Scalar.muli v2 c1_i32_12
  let v18 : BitVec 32 := Scalar.addi c0_i32_13 v17
  v18.toNat

def k0_off2 (v0 : BitVec 32) (c0_i32_18 : BitVec 32) : Fin 2 → Nat :=
  let v27 : BitVec 32 := Scalar.subi v0 c0_i32_18
  let c1_i32_19 : BitVec 32 := 1#32
  let v28 : BitVec 32 := Scalar.subi v27 c1_i32_19
  let c32_i32 : BitVec 32 := 32#32
  let c0_i32_20 : BitVec 32 := 0#32
  let v29 : BitVec 1 := Scalar.cmpi .eq c32_i32 c0_i32_20
  let c1_i32_21 : BitVec 32 := 1#32
  let v30 : BitVec 32 := Scalar.select v29 c1_i32_21 c32_i32
  let v31 : BitVec 32 := Scalar.remsi v28 v30
  let c0_i32_23 : BitVec 32 := 0#32
  let v33 : BitVec 1 := Scalar.cmpi .slt v31 c0_i32_23
  let c0_i32_24 : BitVec 32 := 0#32
  let v34 : BitVec 1 := Scalar.cmpi .slt v30 c0_i32_24
  let v35 : BitVec 1 := Scalar.xori v33 v34
  let c0_i32_22 : BitVec 32 := 0#32
  let v32 : BitVec 1 := Scalar.cmpi .ne v31 c0_i32_22
  let v36 : BitVec 1 := Scalar.andi v35 v32
  let v37 : BitVec 32 := Scalar.addi v31 v30
  let v38 : BitVec 32 := Scalar.select v36 v37 v31
  let c64_i32_25 : BitVec 32 := 64#32
  let v39 : BitVec 32 := Scalar.muli v38 c64_i32_25
  let v40 : Index := Scalar.indexCast v39
  let c0_26 : Index := 0#32
  ![v40.toNat, 0]
def k0_dev3 (v1 : BitVec 32) : Nat :=
  let c0_i32_51 : BitVec 32 := 0#32
  let c1_i32_50 : BitVec 32 := 1#32
  let v60 : BitVec 32 := Scalar.muli v1 c1_i32_50
  let v61 : BitVec 32 := Scalar.addi c0_i32_51 v60
  v61.toNat
def k0_dev4 (v2 : BitVec 32) : Nat :=
  let c0_i32_65 : BitVec 32 := 0#32
  let c1_i32_64 : BitVec 32 := 1#32
  let v70 : BitVec 32 := Scalar.muli v2 c1_i32_64
  let v71 : BitVec 32 := Scalar.addi c0_i32_65 v70
  v71.toNat
def k0_dev5 (v1 : BitVec 32) : Nat :=
  let c0_i32_104 : BitVec 32 := 0#32
  let c1_i32_103 : BitVec 32 := 1#32
  let v113 : BitVec 32 := Scalar.muli v1 c1_i32_103
  let v114 : BitVec 32 := Scalar.addi c0_i32_104 v113
  v114.toNat
def k0_dev6 (v2 : BitVec 32) : Nat :=
  let c0_i32_118 : BitVec 32 := 0#32
  let c1_i32_117 : BitVec 32 := 1#32
  let v123 : BitVec 32 := Scalar.muli v2 c1_i32_117
  let v124 : BitVec 32 := Scalar.addi c0_i32_118 v123
  v124.toNat
def k0_dev7 (v1 : BitVec 32) : Nat :=
  let c0_i32_156 : BitVec 32 := 0#32
  let c1_i32_155 : BitVec 32 := 1#32
  let v166 : BitVec 32 := Scalar.muli v1 c1_i32_155
  let v167 : BitVec 32 := Scalar.addi c0_i32_156 v166
  v167.toNat
def k0_dev8 (v2 : BitVec 32) : Nat :=
  let c0_i32_170 : BitVec 32 := 0#32
  let c1_i32_169 : BitVec 32 := 1#32
  let v176 : BitVec 32 := Scalar.muli v2 c1_i32_169
  let v177 : BitVec 32 := Scalar.addi c0_i32_170 v176
  v177.toNat
def k0_dev9 (v1 : BitVec 32) : Nat :=
  let c0_i32_208 : BitVec 32 := 0#32
  let c1_i32_207 : BitVec 32 := 1#32
  let v219 : BitVec 32 := Scalar.muli v1 c1_i32_207
  let v220 : BitVec 32 := Scalar.addi c0_i32_208 v219
  v220.toNat
def k0_dev10 (v2 : BitVec 32) : Nat :=
  let c0_i32_222 : BitVec 32 := 0#32
  let c1_i32_221 : BitVec 32 := 1#32
  let v229 : BitVec 32 := Scalar.muli v2 c1_i32_221
  let v230 : BitVec 32 := Scalar.addi c0_i32_222 v229
  v230.toNat
def k0_dev11 (v1 : BitVec 32) : Nat :=
  let c0_i32_260 : BitVec 32 := 0#32
  let c1_i32_259 : BitVec 32 := 1#32
  let v272 : BitVec 32 := Scalar.muli v1 c1_i32_259
  let v273 : BitVec 32 := Scalar.addi c0_i32_260 v272
  v273.toNat
def k0_dev12 (v2 : BitVec 32) : Nat :=
  let c0_i32_274 : BitVec 32 := 0#32
  let c1_i32_273 : BitVec 32 := 1#32
  let v282 : BitVec 32 := Scalar.muli v2 c1_i32_273
  let v283 : BitVec 32 := Scalar.addi c0_i32_274 v282
  v283.toNat
def k0_dev13 (v1 : BitVec 32) : Nat :=
  let c0_i32_312 : BitVec 32 := 0#32
  let c1_i32_311 : BitVec 32 := 1#32
  let v325 : BitVec 32 := Scalar.muli v1 c1_i32_311
  let v326 : BitVec 32 := Scalar.addi c0_i32_312 v325
  v326.toNat
def k0_dev14 (v2 : BitVec 32) : Nat :=
  let c0_i32_326 : BitVec 32 := 0#32
  let c1_i32_325 : BitVec 32 := 1#32
  let v335 : BitVec 32 := Scalar.muli v2 c1_i32_325
  let v336 : BitVec 32 := Scalar.addi c0_i32_326 v335
  v336.toNat
def k0_dev15 (v1 : BitVec 32) : Nat :=
  let c0_i32_364 : BitVec 32 := 0#32
  let c1_i32_363 : BitVec 32 := 1#32
  let v378 : BitVec 32 := Scalar.muli v1 c1_i32_363
  let v379 : BitVec 32 := Scalar.addi c0_i32_364 v378
  v379.toNat
def k0_dev16 (v2 : BitVec 32) : Nat :=
  let c0_i32_378 : BitVec 32 := 0#32
  let c1_i32_377 : BitVec 32 := 1#32
  let v388 : BitVec 32 := Scalar.muli v2 c1_i32_377
  let v389 : BitVec 32 := Scalar.addi c0_i32_378 v388
  v389.toNat
def k0_dev17 (v1 : BitVec 32) : Nat :=
  let c0_i32_416 : BitVec 32 := 0#32
  let c1_i32_415 : BitVec 32 := 1#32
  let v431 : BitVec 32 := Scalar.muli v1 c1_i32_415
  let v432 : BitVec 32 := Scalar.addi c0_i32_416 v431
  v432.toNat
def k0_dev18 (v2 : BitVec 32) : Nat :=
  let c0_i32_430 : BitVec 32 := 0#32
  let c1_i32_429 : BitVec 32 := 1#32
  let v441 : BitVec 32 := Scalar.muli v2 c1_i32_429
  let v442 : BitVec 32 := Scalar.addi c0_i32_430 v441
  v442.toNat
def k0_dev19 (v1 : BitVec 32) : Nat :=
  let c0_i32_468 : BitVec 32 := 0#32
  let c1_i32_467 : BitVec 32 := 1#32
  let v484 : BitVec 32 := Scalar.muli v1 c1_i32_467
  let v485 : BitVec 32 := Scalar.addi c0_i32_468 v484
  v485.toNat
def k0_dev20 (v2 : BitVec 32) : Nat :=
  let c0_i32_482 : BitVec 32 := 0#32
  let c1_i32_481 : BitVec 32 := 1#32
  let v494 : BitVec 32 := Scalar.muli v2 c1_i32_481
  let v495 : BitVec 32 := Scalar.addi c0_i32_482 v494
  v495.toNat
def k0_dev21 (v1 : BitVec 32) : Nat :=
  let c0_i32_520 : BitVec 32 := 0#32
  let c1_i32_519 : BitVec 32 := 1#32
  let v537 : BitVec 32 := Scalar.muli v1 c1_i32_519
  let v538 : BitVec 32 := Scalar.addi c0_i32_520 v537
  v538.toNat
def k0_dev22 (v2 : BitVec 32) : Nat :=
  let c0_i32_534 : BitVec 32 := 0#32
  let c1_i32_533 : BitVec 32 := 1#32
  let v547 : BitVec 32 := Scalar.muli v2 c1_i32_533
  let v548 : BitVec 32 := Scalar.addi c0_i32_534 v547
  v548.toNat
def k0_dev23 (v1 : BitVec 32) : Nat :=
  let c0_i32_572 : BitVec 32 := 0#32
  let c1_i32_571 : BitVec 32 := 1#32
  let v590 : BitVec 32 := Scalar.muli v1 c1_i32_571
  let v591 : BitVec 32 := Scalar.addi c0_i32_572 v590
  v591.toNat
def k0_dev24 (v2 : BitVec 32) : Nat :=
  let c0_i32_586 : BitVec 32 := 0#32
  let c1_i32_585 : BitVec 32 := 1#32
  let v600 : BitVec 32 := Scalar.muli v2 c1_i32_585
  let v601 : BitVec 32 := Scalar.addi c0_i32_586 v600
  v601.toNat
def k0_dev25 (v1 : BitVec 32) : Nat :=
  let c0_i32_624 : BitVec 32 := 0#32
  let c1_i32_623 : BitVec 32 := 1#32
  let v643 : BitVec 32 := Scalar.muli v1 c1_i32_623
  let v644 : BitVec 32 := Scalar.addi c0_i32_624 v643
  v644.toNat
def k0_dev26 (v2 : BitVec 32) : Nat :=
  let c0_i32_638 : BitVec 32 := 0#32
  let c1_i32_637 : BitVec 32 := 1#32
  let v653 : BitVec 32 := Scalar.muli v2 c1_i32_637
  let v654 : BitVec 32 := Scalar.addi c0_i32_638 v653
  v654.toNat
def k0_dev27 (v1 : BitVec 32) : Nat :=
  let c0_i32_676 : BitVec 32 := 0#32
  let c1_i32_675 : BitVec 32 := 1#32
  let v696 : BitVec 32 := Scalar.muli v1 c1_i32_675
  let v697 : BitVec 32 := Scalar.addi c0_i32_676 v696
  v697.toNat
def k0_dev28 (v2 : BitVec 32) : Nat :=
  let c0_i32_690 : BitVec 32 := 0#32
  let c1_i32_689 : BitVec 32 := 1#32
  let v706 : BitVec 32 := Scalar.muli v2 c1_i32_689
  let v707 : BitVec 32 := Scalar.addi c0_i32_690 v706
  v707.toNat
def k0_dev29 (v1 : BitVec 32) : Nat :=
  let c0_i32_728 : BitVec 32 := 0#32
  let c1_i32_727 : BitVec 32 := 1#32
  let v749 : BitVec 32 := Scalar.muli v1 c1_i32_727
  let v750 : BitVec 32 := Scalar.addi c0_i32_728 v749
  v750.toNat
def k0_dev30 (v2 : BitVec 32) : Nat :=
  let c0_i32_742 : BitVec 32 := 0#32
  let c1_i32_741 : BitVec 32 := 1#32
  let v759 : BitVec 32 := Scalar.muli v2 c1_i32_741
  let v760 : BitVec 32 := Scalar.addi c0_i32_742 v759
  v760.toNat
def k0_dev31 (v1 : BitVec 32) : Nat :=
  let c0_i32_780 : BitVec 32 := 0#32
  let c1_i32_779 : BitVec 32 := 1#32
  let v802 : BitVec 32 := Scalar.muli v1 c1_i32_779
  let v803 : BitVec 32 := Scalar.addi c0_i32_780 v802
  v803.toNat
def k0_dev32 (v2 : BitVec 32) : Nat :=
  let c0_i32_794 : BitVec 32 := 0#32
  let c1_i32_793 : BitVec 32 := 1#32
  let v812 : BitVec 32 := Scalar.muli v2 c1_i32_793
  let v813 : BitVec 32 := Scalar.addi c0_i32_794 v812
  v813.toNat
def k0_dev33 (v1 : BitVec 32) : Nat :=
  let c0_i32_832 : BitVec 32 := 0#32
  let c1_i32_831 : BitVec 32 := 1#32
  let v855 : BitVec 32 := Scalar.muli v1 c1_i32_831
  let v856 : BitVec 32 := Scalar.addi c0_i32_832 v855
  v856.toNat
def k0_dev34 (v2 : BitVec 32) : Nat :=
  let c0_i32_846 : BitVec 32 := 0#32
  let c1_i32_845 : BitVec 32 := 1#32
  let v865 : BitVec 32 := Scalar.muli v2 c1_i32_845
  let v866 : BitVec 32 := Scalar.addi c0_i32_846 v865
  v866.toNat
def k0_dev35 (v1 : BitVec 32) : Nat :=
  let c0_i32_884 : BitVec 32 := 0#32
  let c1_i32_883 : BitVec 32 := 1#32
  let v908 : BitVec 32 := Scalar.muli v1 c1_i32_883
  let v909 : BitVec 32 := Scalar.addi c0_i32_884 v908
  v909.toNat
def k0_dev36 (v2 : BitVec 32) : Nat :=
  let c0_i32_898 : BitVec 32 := 0#32
  let c1_i32_897 : BitVec 32 := 1#32
  let v918 : BitVec 32 := Scalar.muli v2 c1_i32_897
  let v919 : BitVec 32 := Scalar.addi c0_i32_898 v918
  v919.toNat
def k0_dev37 (v1 : BitVec 32) : Nat :=
  let c0_i32_936 : BitVec 32 := 0#32
  let c1_i32_935 : BitVec 32 := 1#32
  let v961 : BitVec 32 := Scalar.muli v1 c1_i32_935
  let v962 : BitVec 32 := Scalar.addi c0_i32_936 v961
  v962.toNat
def k0_dev38 (v2 : BitVec 32) : Nat :=
  let c0_i32_950 : BitVec 32 := 0#32
  let c1_i32_949 : BitVec 32 := 1#32
  let v971 : BitVec 32 := Scalar.muli v2 c1_i32_949
  let v972 : BitVec 32 := Scalar.addi c0_i32_950 v971
  v972.toNat
def k0_dev39 (v1 : BitVec 32) : Nat :=
  let c0_i32_988 : BitVec 32 := 0#32
  let c1_i32_987 : BitVec 32 := 1#32
  let v1014 : BitVec 32 := Scalar.muli v1 c1_i32_987
  let v1015 : BitVec 32 := Scalar.addi c0_i32_988 v1014
  v1015.toNat
def k0_dev40 (v2 : BitVec 32) : Nat :=
  let c0_i32_1002 : BitVec 32 := 0#32
  let c1_i32_1001 : BitVec 32 := 1#32
  let v1024 : BitVec 32 := Scalar.muli v2 c1_i32_1001
  let v1025 : BitVec 32 := Scalar.addi c0_i32_1002 v1024
  v1025.toNat
def k0_dev41 (v1 : BitVec 32) : Nat :=
  let c0_i32_1040 : BitVec 32 := 0#32
  let c1_i32_1039 : BitVec 32 := 1#32
  let v1067 : BitVec 32 := Scalar.muli v1 c1_i32_1039
  let v1068 : BitVec 32 := Scalar.addi c0_i32_1040 v1067
  v1068.toNat
def k0_dev42 (v2 : BitVec 32) : Nat :=
  let c0_i32_1054 : BitVec 32 := 0#32
  let c1_i32_1053 : BitVec 32 := 1#32
  let v1077 : BitVec 32 := Scalar.muli v2 c1_i32_1053
  let v1078 : BitVec 32 := Scalar.addi c0_i32_1054 v1077
  v1078.toNat
def k0_dev43 (v1 : BitVec 32) : Nat :=
  let c0_i32_1092 : BitVec 32 := 0#32
  let c1_i32_1091 : BitVec 32 := 1#32
  let v1120 : BitVec 32 := Scalar.muli v1 c1_i32_1091
  let v1121 : BitVec 32 := Scalar.addi c0_i32_1092 v1120
  v1121.toNat
def k0_dev44 (v2 : BitVec 32) : Nat :=
  let c0_i32_1106 : BitVec 32 := 0#32
  let c1_i32_1105 : BitVec 32 := 1#32
  let v1130 : BitVec 32 := Scalar.muli v2 c1_i32_1105
  let v1131 : BitVec 32 := Scalar.addi c0_i32_1106 v1130
  v1131.toNat
def k0_dev45 (v1 : BitVec 32) : Nat :=
  let c0_i32_1144 : BitVec 32 := 0#32
  let c1_i32_1143 : BitVec 32 := 1#32
  let v1173 : BitVec 32 := Scalar.muli v1 c1_i32_1143
  let v1174 : BitVec 32 := Scalar.addi c0_i32_1144 v1173
  v1174.toNat
def k0_dev46 (v2 : BitVec 32) : Nat :=
  let c0_i32_1158 : BitVec 32 := 0#32
  let c1_i32_1157 : BitVec 32 := 1#32
  let v1183 : BitVec 32 := Scalar.muli v2 c1_i32_1157
  let v1184 : BitVec 32 := Scalar.addi c0_i32_1158 v1183
  v1184.toNat
def k0_dev47 (v1 : BitVec 32) : Nat :=
  let c0_i32_1196 : BitVec 32 := 0#32
  let c1_i32_1195 : BitVec 32 := 1#32
  let v1226 : BitVec 32 := Scalar.muli v1 c1_i32_1195
  let v1227 : BitVec 32 := Scalar.addi c0_i32_1196 v1226
  v1227.toNat
def k0_dev48 (v2 : BitVec 32) : Nat :=
  let c0_i32_1210 : BitVec 32 := 0#32
  let c1_i32_1209 : BitVec 32 := 1#32
  let v1236 : BitVec 32 := Scalar.muli v2 c1_i32_1209
  let v1237 : BitVec 32 := Scalar.addi c0_i32_1210 v1236
  v1237.toNat
def k0_dev49 (v1 : BitVec 32) : Nat :=
  let c0_i32_1248 : BitVec 32 := 0#32
  let c1_i32_1247 : BitVec 32 := 1#32
  let v1279 : BitVec 32 := Scalar.muli v1 c1_i32_1247
  let v1280 : BitVec 32 := Scalar.addi c0_i32_1248 v1279
  v1280.toNat
def k0_dev50 (v2 : BitVec 32) : Nat :=
  let c0_i32_1262 : BitVec 32 := 0#32
  let c1_i32_1261 : BitVec 32 := 1#32
  let v1289 : BitVec 32 := Scalar.muli v2 c1_i32_1261
  let v1290 : BitVec 32 := Scalar.addi c0_i32_1262 v1289
  v1290.toNat
def k0_dev51 (v1 : BitVec 32) : Nat :=
  let c0_i32_1300 : BitVec 32 := 0#32
  let c1_i32_1299 : BitVec 32 := 1#32
  let v1332 : BitVec 32 := Scalar.muli v1 c1_i32_1299
  let v1333 : BitVec 32 := Scalar.addi c0_i32_1300 v1332
  v1333.toNat
def k0_dev52 (v2 : BitVec 32) : Nat :=
  let c0_i32_1314 : BitVec 32 := 0#32
  let c1_i32_1313 : BitVec 32 := 1#32
  let v1342 : BitVec 32 := Scalar.muli v2 c1_i32_1313
  let v1343 : BitVec 32 := Scalar.addi c0_i32_1314 v1342
  v1343.toNat
def k0_dev53 (v1 : BitVec 32) : Nat :=
  let c0_i32_1352 : BitVec 32 := 0#32
  let c1_i32_1351 : BitVec 32 := 1#32
  let v1385 : BitVec 32 := Scalar.muli v1 c1_i32_1351
  let v1386 : BitVec 32 := Scalar.addi c0_i32_1352 v1385
  v1386.toNat
def k0_dev54 (v2 : BitVec 32) : Nat :=
  let c0_i32_1366 : BitVec 32 := 0#32
  let c1_i32_1365 : BitVec 32 := 1#32
  let v1395 : BitVec 32 := Scalar.muli v2 c1_i32_1365
  let v1396 : BitVec 32 := Scalar.addi c0_i32_1366 v1395
  v1396.toNat
def k0_dev55 (v1 : BitVec 32) : Nat :=
  let c0_i32_1404 : BitVec 32 := 0#32
  let c1_i32_1403 : BitVec 32 := 1#32
  let v1438 : BitVec 32 := Scalar.muli v1 c1_i32_1403
  let v1439 : BitVec 32 := Scalar.addi c0_i32_1404 v1438
  v1439.toNat
def k0_dev56 (v2 : BitVec 32) : Nat :=
  let c0_i32_1418 : BitVec 32 := 0#32
  let c1_i32_1417 : BitVec 32 := 1#32
  let v1448 : BitVec 32 := Scalar.muli v2 c1_i32_1417
  let v1449 : BitVec 32 := Scalar.addi c0_i32_1418 v1448
  v1449.toNat
def k0_dev57 (v1 : BitVec 32) : Nat :=
  let c0_i32_1456 : BitVec 32 := 0#32
  let c1_i32_1455 : BitVec 32 := 1#32
  let v1491 : BitVec 32 := Scalar.muli v1 c1_i32_1455
  let v1492 : BitVec 32 := Scalar.addi c0_i32_1456 v1491
  v1492.toNat
def k0_dev58 (v2 : BitVec 32) : Nat :=
  let c0_i32_1470 : BitVec 32 := 0#32
  let c1_i32_1469 : BitVec 32 := 1#32
  let v1501 : BitVec 32 := Scalar.muli v2 c1_i32_1469
  let v1502 : BitVec 32 := Scalar.addi c0_i32_1470 v1501
  v1502.toNat
def k0_dev59 (v1 : BitVec 32) : Nat :=
  let c0_i32_1508 : BitVec 32 := 0#32
  let c1_i32_1507 : BitVec 32 := 1#32
  let v1544 : BitVec 32 := Scalar.muli v1 c1_i32_1507
  let v1545 : BitVec 32 := Scalar.addi c0_i32_1508 v1544
  v1545.toNat
def k0_dev60 (v2 : BitVec 32) : Nat :=
  let c0_i32_1522 : BitVec 32 := 0#32
  let c1_i32_1521 : BitVec 32 := 1#32
  let v1554 : BitVec 32 := Scalar.muli v2 c1_i32_1521
  let v1555 : BitVec 32 := Scalar.addi c0_i32_1522 v1554
  v1555.toNat
def k0_dev61 (v1 : BitVec 32) : Nat :=
  let c0_i32_1560 : BitVec 32 := 0#32
  let c1_i32_1559 : BitVec 32 := 1#32
  let v1597 : BitVec 32 := Scalar.muli v1 c1_i32_1559
  let v1598 : BitVec 32 := Scalar.addi c0_i32_1560 v1597
  v1598.toNat
def k0_dev62 (v2 : BitVec 32) : Nat :=
  let c0_i32_1574 : BitVec 32 := 0#32
  let c1_i32_1573 : BitVec 32 := 1#32
  let v1607 : BitVec 32 := Scalar.muli v2 c1_i32_1573
  let v1608 : BitVec 32 := Scalar.addi c0_i32_1574 v1607
  v1608.toNat
def k0_off3 (v0 : BitVec 32) : Fin 2 → Nat :=
  let c1_i32_1610 : BitVec 32 := 1#32
  let v1650 : BitVec 32 := Scalar.addi v0 c1_i32_1610
  let c32_i32_1611 : BitVec 32 := 32#32
  let c0_i32_1612 : BitVec 32 := 0#32
  let v1651 : BitVec 1 := Scalar.cmpi .eq c32_i32_1611 c0_i32_1612
  let c1_i32_1613 : BitVec 32 := 1#32
  let v1652 : BitVec 32 := Scalar.select v1651 c1_i32_1613 c32_i32_1611
  let v1653 : BitVec 32 := Scalar.remsi v1650 v1652
  let c0_i32_1615 : BitVec 32 := 0#32
  let v1655 : BitVec 1 := Scalar.cmpi .slt v1653 c0_i32_1615
  let c0_i32_1616 : BitVec 32 := 0#32
  let v1656 : BitVec 1 := Scalar.cmpi .slt v1652 c0_i32_1616
  let v1657 : BitVec 1 := Scalar.xori v1655 v1656
  let c0_i32_1614 : BitVec 32 := 0#32
  let v1654 : BitVec 1 := Scalar.cmpi .ne v1653 c0_i32_1614
  let v1658 : BitVec 1 := Scalar.andi v1657 v1654
  let v1659 : BitVec 32 := Scalar.addi v1653 v1652
  let v1660 : BitVec 32 := Scalar.select v1658 v1659 v1653
  let c64_i32_1624 : BitVec 32 := 64#32
  let v1679 : BitVec 32 := Scalar.muli v1660 c64_i32_1624
  let v1680 : Index := Scalar.indexCast v1679
  let c0_1625 : Index := 0#32
  ![v1680.toNat, 0]
def k0_dev63 (v2 : BitVec 32) : Nat :=
  let c0_i32_1634 : BitVec 32 := 0#32
  let c1_i32_1633 : BitVec 32 := 1#32
  let v1685 : BitVec 32 := Scalar.muli v2 c1_i32_1633
  let v1686 : BitVec 32 := Scalar.addi c0_i32_1634 v1685
  v1686.toNat
def k0_dev64 (v1 : BitVec 32) : Nat :=
  let c0_i32_1660 : BitVec 32 := 0#32
  let c1_i32_1659 : BitVec 32 := 1#32
  let v1709 : BitVec 32 := Scalar.muli v1 c1_i32_1659
  let v1710 : BitVec 32 := Scalar.addi c0_i32_1660 v1709
  v1710.toNat
def k0_off4 (v0 : BitVec 32) (c0_i32_1661 : BitVec 32) : Fin 2 → Nat :=
  let v1711 : BitVec 32 := Scalar.subi v0 c0_i32_1661
  let c32_i32_1662 : BitVec 32 := 32#32
  let c0_i32_1663 : BitVec 32 := 0#32
  let v1712 : BitVec 1 := Scalar.cmpi .eq c32_i32_1662 c0_i32_1663
  let c1_i32_1664 : BitVec 32 := 1#32
  let v1713 : BitVec 32 := Scalar.select v1712 c1_i32_1664 c32_i32_1662
  let v1714 : BitVec 32 := Scalar.remsi v1711 v1713
  let c0_i32_1666 : BitVec 32 := 0#32
  let v1716 : BitVec 1 := Scalar.cmpi .slt v1714 c0_i32_1666
  let c0_i32_1667 : BitVec 32 := 0#32
  let v1717 : BitVec 1 := Scalar.cmpi .slt v1713 c0_i32_1667
  let v1718 : BitVec 1 := Scalar.xori v1716 v1717
  let c0_i32_1665 : BitVec 32 := 0#32
  let v1715 : BitVec 1 := Scalar.cmpi .ne v1714 c0_i32_1665
  let v1719 : BitVec 1 := Scalar.andi v1718 v1715
  let v1720 : BitVec 32 := Scalar.addi v1714 v1713
  let v1721 : BitVec 32 := Scalar.select v1719 v1720 v1714
  let c64_i32_1671 : BitVec 32 := 64#32
  let v1724 : BitVec 32 := Scalar.muli v1721 c64_i32_1671
  let v1725 : Index := Scalar.indexCast v1724
  let c0_1672 : Index := 0#32
  ![v1725.toNat, 0]

def k0_chk2 (v0 : BitVec 32) : Prop :=
  (∀ a, (k0_off1 v0) a + S64x1024.size a ≤ S2048x1024.size a) ∧
  (∀ (r : Fin 31), ∀ a, (k0_off2 v0 (BitVec.ofNat 32 r.val)) a + S64x1024.size a ≤ S2048x1024.size a) ∧
  (∀ a, (k0_off3 v0) a + S64x2048.size a ≤ S2048x2048.size a) ∧
  (∀ (hinb : ∀ a, (k0_off3 v0) a + S64x2048.size a ≤ S2048x2048.size a), (Rect.unit (s := S2048x2048) (k0_off3 v0) S64x2048.size hinb).PackedRows (EltTy.packing .bf16)) ∧
  (∀ (r : Fin 31), ∀ a, (k0_off4 v0 (BitVec.ofNat 32 r.val)) a + S64x2048.size a ≤ S2048x2048.size a) ∧
  (∀ (r : Fin 31), ∀ (hinb : ∀ a, (k0_off4 v0 (BitVec.ofNat 32 r.val)) a + S64x2048.size a ≤ S2048x2048.size a), (Rect.unit (s := S2048x2048) (k0_off4 v0 (BitVec.ofNat 32 r.val)) S64x2048.size hinb).PackedRows (EltTy.packing .bf16))
theorem k0_off1_inb : ∀ (v0 : BitVec 32) (k0_hw2 : k0_chk2 v0), ∀ a, (k0_off1 v0) a + S64x1024.size a ≤ S2048x1024.size a := fun v0 k0_hw2 => k0_hw2.1
theorem k0_off2_inb : ∀ (v0 : BitVec 32) (k0_hw2 : k0_chk2 v0), ∀ (r : Fin 31), ∀ a, (k0_off2 v0 (BitVec.ofNat 32 r.val)) a + S64x1024.size a ≤ S2048x1024.size a := fun v0 k0_hw2 r => k0_hw2.2.1 r
theorem k0_off3_inb : ∀ (v0 : BitVec 32) (k0_hw2 : k0_chk2 v0), ∀ a, (k0_off3 v0) a + S64x2048.size a ≤ S2048x2048.size a := fun v0 k0_hw2 => k0_hw2.2.2.1
theorem k0_off3_packedbf16 : ∀ (v0 : BitVec 32) (k0_hw2 : k0_chk2 v0), (Rect.unit (s := S2048x2048) (k0_off3 v0) S64x2048.size (k0_off3_inb v0 k0_hw2)).PackedRows (EltTy.packing .bf16) := fun v0 k0_hw2 => k0_hw2.2.2.2.1 (k0_off3_inb v0 k0_hw2)
theorem k0_off4_inb : ∀ (v0 : BitVec 32) (k0_hw2 : k0_chk2 v0), ∀ (r : Fin 31), ∀ a, (k0_off4 v0 (BitVec.ofNat 32 r.val)) a + S64x2048.size a ≤ S2048x2048.size a := fun v0 k0_hw2 r => k0_hw2.2.2.2.2.1 r
theorem k0_off4_packedbf16 : ∀ (v0 : BitVec 32) (k0_hw2 : k0_chk2 v0), ∀ (r : Fin 31), (Rect.unit (s := S2048x2048) (k0_off4 v0 (BitVec.ofNat 32 r.val)) S64x2048.size (k0_off4_inb v0 k0_hw2 r)).PackedRows (EltTy.packing .bf16) := fun v0 k0_hw2 r => k0_hw2.2.2.2.2.2 r (k0_off4_inb v0 k0_hw2 r)

def k0_dev65 (v2 : BitVec 32) : Nat :=
  let c0_i32_1680 : BitVec 32 := 0#32
  let c1_i32_1679 : BitVec 32 := 1#32
  let v1727 : BitVec 32 := Scalar.muli v2 c1_i32_1679
  let v1728 : BitVec 32 := Scalar.addi c0_i32_1680 v1727
  v1728.toNat
def k0_dev66 (v1 : BitVec 32) : Nat :=
  let c0_i32_1706 : BitVec 32 := 0#32
  let c1_i32_1705 : BitVec 32 := 1#32
  let v1751 : BitVec 32 := Scalar.muli v1 c1_i32_1705
  let v1752 : BitVec 32 := Scalar.addi c0_i32_1706 v1751
  v1752.toNat
def k0_dev67 (v2 : BitVec 32) : Nat :=
  let c0_i32_1726 : BitVec 32 := 0#32
  let c1_i32_1725 : BitVec 32 := 1#32
  let v1769 : BitVec 32 := Scalar.muli v2 c1_i32_1725
  let v1770 : BitVec 32 := Scalar.addi c0_i32_1726 v1769
  v1770.toNat
def k0_dev68 (v1 : BitVec 32) : Nat :=
  let c0_i32_1752 : BitVec 32 := 0#32
  let c1_i32_1751 : BitVec 32 := 1#32
  let v1793 : BitVec 32 := Scalar.muli v1 c1_i32_1751
  let v1794 : BitVec 32 := Scalar.addi c0_i32_1752 v1793
  v1794.toNat
def k0_dev69 (v2 : BitVec 32) : Nat :=
  let c0_i32_1772 : BitVec 32 := 0#32
  let c1_i32_1771 : BitVec 32 := 1#32
  let v1811 : BitVec 32 := Scalar.muli v2 c1_i32_1771
  let v1812 : BitVec 32 := Scalar.addi c0_i32_1772 v1811
  v1812.toNat
def k0_dev70 (v1 : BitVec 32) : Nat :=
  let c0_i32_1798 : BitVec 32 := 0#32
  let c1_i32_1797 : BitVec 32 := 1#32
  let v1835 : BitVec 32 := Scalar.muli v1 c1_i32_1797
  let v1836 : BitVec 32 := Scalar.addi c0_i32_1798 v1835
  v1836.toNat
def k0_dev71 (v2 : BitVec 32) : Nat :=
  let c0_i32_1818 : BitVec 32 := 0#32
  let c1_i32_1817 : BitVec 32 := 1#32
  let v1853 : BitVec 32 := Scalar.muli v2 c1_i32_1817
  let v1854 : BitVec 32 := Scalar.addi c0_i32_1818 v1853
  v1854.toNat
def k0_dev72 (v1 : BitVec 32) : Nat :=
  let c0_i32_1844 : BitVec 32 := 0#32
  let c1_i32_1843 : BitVec 32 := 1#32
  let v1877 : BitVec 32 := Scalar.muli v1 c1_i32_1843
  let v1878 : BitVec 32 := Scalar.addi c0_i32_1844 v1877
  v1878.toNat
def k0_dev73 (v2 : BitVec 32) : Nat :=
  let c0_i32_1864 : BitVec 32 := 0#32
  let c1_i32_1863 : BitVec 32 := 1#32
  let v1895 : BitVec 32 := Scalar.muli v2 c1_i32_1863
  let v1896 : BitVec 32 := Scalar.addi c0_i32_1864 v1895
  v1896.toNat
def k0_dev74 (v1 : BitVec 32) : Nat :=
  let c0_i32_1890 : BitVec 32 := 0#32
  let c1_i32_1889 : BitVec 32 := 1#32
  let v1919 : BitVec 32 := Scalar.muli v1 c1_i32_1889
  let v1920 : BitVec 32 := Scalar.addi c0_i32_1890 v1919
  v1920.toNat
def k0_dev75 (v2 : BitVec 32) : Nat :=
  let c0_i32_1910 : BitVec 32 := 0#32
  let c1_i32_1909 : BitVec 32 := 1#32
  let v1937 : BitVec 32 := Scalar.muli v2 c1_i32_1909
  let v1938 : BitVec 32 := Scalar.addi c0_i32_1910 v1937
  v1938.toNat
def k0_dev76 (v1 : BitVec 32) : Nat :=
  let c0_i32_1936 : BitVec 32 := 0#32
  let c1_i32_1935 : BitVec 32 := 1#32
  let v1961 : BitVec 32 := Scalar.muli v1 c1_i32_1935
  let v1962 : BitVec 32 := Scalar.addi c0_i32_1936 v1961
  v1962.toNat
def k0_dev77 (v2 : BitVec 32) : Nat :=
  let c0_i32_1956 : BitVec 32 := 0#32
  let c1_i32_1955 : BitVec 32 := 1#32
  let v1979 : BitVec 32 := Scalar.muli v2 c1_i32_1955
  let v1980 : BitVec 32 := Scalar.addi c0_i32_1956 v1979
  v1980.toNat
def k0_dev78 (v1 : BitVec 32) : Nat :=
  let c0_i32_1982 : BitVec 32 := 0#32
  let c1_i32_1981 : BitVec 32 := 1#32
  let v2003 : BitVec 32 := Scalar.muli v1 c1_i32_1981
  let v2004 : BitVec 32 := Scalar.addi c0_i32_1982 v2003
  v2004.toNat
def k0_dev79 (v2 : BitVec 32) : Nat :=
  let c0_i32_2002 : BitVec 32 := 0#32
  let c1_i32_2001 : BitVec 32 := 1#32
  let v2021 : BitVec 32 := Scalar.muli v2 c1_i32_2001
  let v2022 : BitVec 32 := Scalar.addi c0_i32_2002 v2021
  v2022.toNat
def k0_dev80 (v1 : BitVec 32) : Nat :=
  let c0_i32_2028 : BitVec 32 := 0#32
  let c1_i32_2027 : BitVec 32 := 1#32
  let v2045 : BitVec 32 := Scalar.muli v1 c1_i32_2027
  let v2046 : BitVec 32 := Scalar.addi c0_i32_2028 v2045
  v2046.toNat
def k0_dev81 (v2 : BitVec 32) : Nat :=
  let c0_i32_2048 : BitVec 32 := 0#32
  let c1_i32_2047 : BitVec 32 := 1#32
  let v2063 : BitVec 32 := Scalar.muli v2 c1_i32_2047
  let v2064 : BitVec 32 := Scalar.addi c0_i32_2048 v2063
  v2064.toNat
def k0_dev82 (v1 : BitVec 32) : Nat :=
  let c0_i32_2074 : BitVec 32 := 0#32
  let c1_i32_2073 : BitVec 32 := 1#32
  let v2087 : BitVec 32 := Scalar.muli v1 c1_i32_2073
  let v2088 : BitVec 32 := Scalar.addi c0_i32_2074 v2087
  v2088.toNat
def k0_dev83 (v2 : BitVec 32) : Nat :=
  let c0_i32_2094 : BitVec 32 := 0#32
  let c1_i32_2093 : BitVec 32 := 1#32
  let v2105 : BitVec 32 := Scalar.muli v2 c1_i32_2093
  let v2106 : BitVec 32 := Scalar.addi c0_i32_2094 v2105
  v2106.toNat
def k0_dev84 (v1 : BitVec 32) : Nat :=
  let c0_i32_2120 : BitVec 32 := 0#32
  let c1_i32_2119 : BitVec 32 := 1#32
  let v2129 : BitVec 32 := Scalar.muli v1 c1_i32_2119
  let v2130 : BitVec 32 := Scalar.addi c0_i32_2120 v2129
  v2130.toNat
def k0_dev85 (v2 : BitVec 32) : Nat :=
  let c0_i32_2140 : BitVec 32 := 0#32
  let c1_i32_2139 : BitVec 32 := 1#32
  let v2147 : BitVec 32 := Scalar.muli v2 c1_i32_2139
  let v2148 : BitVec 32 := Scalar.addi c0_i32_2140 v2147
  v2148.toNat
def k0_dev86 (v1 : BitVec 32) : Nat :=
  let c0_i32_2166 : BitVec 32 := 0#32
  let c1_i32_2165 : BitVec 32 := 1#32
  let v2171 : BitVec 32 := Scalar.muli v1 c1_i32_2165
  let v2172 : BitVec 32 := Scalar.addi c0_i32_2166 v2171
  v2172.toNat
def k0_dev87 (v2 : BitVec 32) : Nat :=
  let c0_i32_2186 : BitVec 32 := 0#32
  let c1_i32_2185 : BitVec 32 := 1#32
  let v2189 : BitVec 32 := Scalar.muli v2 c1_i32_2185
  let v2190 : BitVec 32 := Scalar.addi c0_i32_2186 v2189
  v2190.toNat
def k0_dev88 (v1 : BitVec 32) : Nat :=
  let c0_i32_2212 : BitVec 32 := 0#32
  let c1_i32_2211 : BitVec 32 := 1#32
  let v2213 : BitVec 32 := Scalar.muli v1 c1_i32_2211
  let v2214 : BitVec 32 := Scalar.addi c0_i32_2212 v2213
  v2214.toNat
def k0_dev89 (v2 : BitVec 32) : Nat :=
  let c0_i32_2232 : BitVec 32 := 0#32
  let c1_i32_2231 : BitVec 32 := 1#32
  let v2231 : BitVec 32 := Scalar.muli v2 c1_i32_2231
  let v2232 : BitVec 32 := Scalar.addi c0_i32_2232 v2231
  v2232.toNat
def k0_dev90 (v1 : BitVec 32) : Nat :=
  let c0_i32_2258 : BitVec 32 := 0#32
  let c1_i32_2257 : BitVec 32 := 1#32
  let v2255 : BitVec 32 := Scalar.muli v1 c1_i32_2257
  let v2256 : BitVec 32 := Scalar.addi c0_i32_2258 v2255
  v2256.toNat
def k0_dev91 (v2 : BitVec 32) : Nat :=
  let c0_i32_2278 : BitVec 32 := 0#32
  let c1_i32_2277 : BitVec 32 := 1#32
  let v2273 : BitVec 32 := Scalar.muli v2 c1_i32_2277
  let v2274 : BitVec 32 := Scalar.addi c0_i32_2278 v2273
  v2274.toNat
def k0_dev92 (v1 : BitVec 32) : Nat :=
  let c0_i32_2304 : BitVec 32 := 0#32
  let c1_i32_2303 : BitVec 32 := 1#32
  let v2297 : BitVec 32 := Scalar.muli v1 c1_i32_2303
  let v2298 : BitVec 32 := Scalar.addi c0_i32_2304 v2297
  v2298.toNat
def k0_dev93 (v2 : BitVec 32) : Nat :=
  let c0_i32_2324 : BitVec 32 := 0#32
  let c1_i32_2323 : BitVec 32 := 1#32
  let v2315 : BitVec 32 := Scalar.muli v2 c1_i32_2323
  let v2316 : BitVec 32 := Scalar.addi c0_i32_2324 v2315
  v2316.toNat
def k0_dev94 (v1 : BitVec 32) : Nat :=
  let c0_i32_2350 : BitVec 32 := 0#32
  let c1_i32_2349 : BitVec 32 := 1#32
  let v2339 : BitVec 32 := Scalar.muli v1 c1_i32_2349
  let v2340 : BitVec 32 := Scalar.addi c0_i32_2350 v2339
  v2340.toNat
def k0_dev95 (v2 : BitVec 32) : Nat :=
  let c0_i32_2370 : BitVec 32 := 0#32
  let c1_i32_2369 : BitVec 32 := 1#32
  let v2357 : BitVec 32 := Scalar.muli v2 c1_i32_2369
  let v2358 : BitVec 32 := Scalar.addi c0_i32_2370 v2357
  v2358.toNat
def k0_dev96 (v1 : BitVec 32) : Nat :=
  let c0_i32_2396 : BitVec 32 := 0#32
  let c1_i32_2395 : BitVec 32 := 1#32
  let v2381 : BitVec 32 := Scalar.muli v1 c1_i32_2395
  let v2382 : BitVec 32 := Scalar.addi c0_i32_2396 v2381
  v2382.toNat
def k0_dev97 (v2 : BitVec 32) : Nat :=
  let c0_i32_2416 : BitVec 32 := 0#32
  let c1_i32_2415 : BitVec 32 := 1#32
  let v2399 : BitVec 32 := Scalar.muli v2 c1_i32_2415
  let v2400 : BitVec 32 := Scalar.addi c0_i32_2416 v2399
  v2400.toNat
def k0_dev98 (v1 : BitVec 32) : Nat :=
  let c0_i32_2442 : BitVec 32 := 0#32
  let c1_i32_2441 : BitVec 32 := 1#32
  let v2423 : BitVec 32 := Scalar.muli v1 c1_i32_2441
  let v2424 : BitVec 32 := Scalar.addi c0_i32_2442 v2423
  v2424.toNat
def k0_dev99 (v2 : BitVec 32) : Nat :=
  let c0_i32_2462 : BitVec 32 := 0#32
  let c1_i32_2461 : BitVec 32 := 1#32
  let v2441 : BitVec 32 := Scalar.muli v2 c1_i32_2461
  let v2442 : BitVec 32 := Scalar.addi c0_i32_2462 v2441
  v2442.toNat
def k0_dev100 (v1 : BitVec 32) : Nat :=
  let c0_i32_2488 : BitVec 32 := 0#32
  let c1_i32_2487 : BitVec 32 := 1#32
  let v2465 : BitVec 32 := Scalar.muli v1 c1_i32_2487
  let v2466 : BitVec 32 := Scalar.addi c0_i32_2488 v2465
  v2466.toNat
def k0_dev101 (v2 : BitVec 32) : Nat :=
  let c0_i32_2508 : BitVec 32 := 0#32
  let c1_i32_2507 : BitVec 32 := 1#32
  let v2483 : BitVec 32 := Scalar.muli v2 c1_i32_2507
  let v2484 : BitVec 32 := Scalar.addi c0_i32_2508 v2483
  v2484.toNat
def k0_dev102 (v1 : BitVec 32) : Nat :=
  let c0_i32_2534 : BitVec 32 := 0#32
  let c1_i32_2533 : BitVec 32 := 1#32
  let v2507 : BitVec 32 := Scalar.muli v1 c1_i32_2533
  let v2508 : BitVec 32 := Scalar.addi c0_i32_2534 v2507
  v2508.toNat
def k0_dev103 (v2 : BitVec 32) : Nat :=
  let c0_i32_2554 : BitVec 32 := 0#32
  let c1_i32_2553 : BitVec 32 := 1#32
  let v2525 : BitVec 32 := Scalar.muli v2 c1_i32_2553
  let v2526 : BitVec 32 := Scalar.addi c0_i32_2554 v2525
  v2526.toNat
def k0_dev104 (v1 : BitVec 32) : Nat :=
  let c0_i32_2580 : BitVec 32 := 0#32
  let c1_i32_2579 : BitVec 32 := 1#32
  let v2549 : BitVec 32 := Scalar.muli v1 c1_i32_2579
  let v2550 : BitVec 32 := Scalar.addi c0_i32_2580 v2549
  v2550.toNat
def k0_dev105 (v2 : BitVec 32) : Nat :=
  let c0_i32_2600 : BitVec 32 := 0#32
  let c1_i32_2599 : BitVec 32 := 1#32
  let v2567 : BitVec 32 := Scalar.muli v2 c1_i32_2599
  let v2568 : BitVec 32 := Scalar.addi c0_i32_2600 v2567
  v2568.toNat
def k0_dev106 (v1 : BitVec 32) : Nat :=
  let c0_i32_2626 : BitVec 32 := 0#32
  let c1_i32_2625 : BitVec 32 := 1#32
  let v2591 : BitVec 32 := Scalar.muli v1 c1_i32_2625
  let v2592 : BitVec 32 := Scalar.addi c0_i32_2626 v2591
  v2592.toNat
def k0_dev107 (v2 : BitVec 32) : Nat :=
  let c0_i32_2646 : BitVec 32 := 0#32
  let c1_i32_2645 : BitVec 32 := 1#32
  let v2609 : BitVec 32 := Scalar.muli v2 c1_i32_2645
  let v2610 : BitVec 32 := Scalar.addi c0_i32_2646 v2609
  v2610.toNat
def k0_dev108 (v1 : BitVec 32) : Nat :=
  let c0_i32_2672 : BitVec 32 := 0#32
  let c1_i32_2671 : BitVec 32 := 1#32
  let v2633 : BitVec 32 := Scalar.muli v1 c1_i32_2671
  let v2634 : BitVec 32 := Scalar.addi c0_i32_2672 v2633
  v2634.toNat
def k0_dev109 (v2 : BitVec 32) : Nat :=
  let c0_i32_2692 : BitVec 32 := 0#32
  let c1_i32_2691 : BitVec 32 := 1#32
  let v2651 : BitVec 32 := Scalar.muli v2 c1_i32_2691
  let v2652 : BitVec 32 := Scalar.addi c0_i32_2692 v2651
  v2652.toNat
def k0_dev110 (v1 : BitVec 32) : Nat :=
  let c0_i32_2718 : BitVec 32 := 0#32
  let c1_i32_2717 : BitVec 32 := 1#32
  let v2675 : BitVec 32 := Scalar.muli v1 c1_i32_2717
  let v2676 : BitVec 32 := Scalar.addi c0_i32_2718 v2675
  v2676.toNat
def k0_dev111 (v2 : BitVec 32) : Nat :=
  let c0_i32_2738 : BitVec 32 := 0#32
  let c1_i32_2737 : BitVec 32 := 1#32
  let v2693 : BitVec 32 := Scalar.muli v2 c1_i32_2737
  let v2694 : BitVec 32 := Scalar.addi c0_i32_2738 v2693
  v2694.toNat
def k0_dev112 (v1 : BitVec 32) : Nat :=
  let c0_i32_2764 : BitVec 32 := 0#32
  let c1_i32_2763 : BitVec 32 := 1#32
  let v2717 : BitVec 32 := Scalar.muli v1 c1_i32_2763
  let v2718 : BitVec 32 := Scalar.addi c0_i32_2764 v2717
  v2718.toNat
def k0_dev113 (v2 : BitVec 32) : Nat :=
  let c0_i32_2784 : BitVec 32 := 0#32
  let c1_i32_2783 : BitVec 32 := 1#32
  let v2735 : BitVec 32 := Scalar.muli v2 c1_i32_2783
  let v2736 : BitVec 32 := Scalar.addi c0_i32_2784 v2735
  v2736.toNat
def k0_dev114 (v1 : BitVec 32) : Nat :=
  let c0_i32_2810 : BitVec 32 := 0#32
  let c1_i32_2809 : BitVec 32 := 1#32
  let v2759 : BitVec 32 := Scalar.muli v1 c1_i32_2809
  let v2760 : BitVec 32 := Scalar.addi c0_i32_2810 v2759
  v2760.toNat
def k0_dev115 (v2 : BitVec 32) : Nat :=
  let c0_i32_2830 : BitVec 32 := 0#32
  let c1_i32_2829 : BitVec 32 := 1#32
  let v2777 : BitVec 32 := Scalar.muli v2 c1_i32_2829
  let v2778 : BitVec 32 := Scalar.addi c0_i32_2830 v2777
  v2778.toNat
def k0_dev116 (v1 : BitVec 32) : Nat :=
  let c0_i32_2856 : BitVec 32 := 0#32
  let c1_i32_2855 : BitVec 32 := 1#32
  let v2801 : BitVec 32 := Scalar.muli v1 c1_i32_2855
  let v2802 : BitVec 32 := Scalar.addi c0_i32_2856 v2801
  v2802.toNat
def k0_dev117 (v2 : BitVec 32) : Nat :=
  let c0_i32_2876 : BitVec 32 := 0#32
  let c1_i32_2875 : BitVec 32 := 1#32
  let v2819 : BitVec 32 := Scalar.muli v2 c1_i32_2875
  let v2820 : BitVec 32 := Scalar.addi c0_i32_2876 v2819
  v2820.toNat
def k0_dev118 (v1 : BitVec 32) : Nat :=
  let c0_i32_2902 : BitVec 32 := 0#32
  let c1_i32_2901 : BitVec 32 := 1#32
  let v2843 : BitVec 32 := Scalar.muli v1 c1_i32_2901
  let v2844 : BitVec 32 := Scalar.addi c0_i32_2902 v2843
  v2844.toNat
def k0_dev119 (v2 : BitVec 32) : Nat :=
  let c0_i32_2922 : BitVec 32 := 0#32
  let c1_i32_2921 : BitVec 32 := 1#32
  let v2861 : BitVec 32 := Scalar.muli v2 c1_i32_2921
  let v2862 : BitVec 32 := Scalar.addi c0_i32_2922 v2861
  v2862.toNat
def k0_dev120 (v1 : BitVec 32) : Nat :=
  let c0_i32_2948 : BitVec 32 := 0#32
  let c1_i32_2947 : BitVec 32 := 1#32
  let v2885 : BitVec 32 := Scalar.muli v1 c1_i32_2947
  let v2886 : BitVec 32 := Scalar.addi c0_i32_2948 v2885
  v2886.toNat
def k0_dev121 (v2 : BitVec 32) : Nat :=
  let c0_i32_2968 : BitVec 32 := 0#32
  let c1_i32_2967 : BitVec 32 := 1#32
  let v2903 : BitVec 32 := Scalar.muli v2 c1_i32_2967
  let v2904 : BitVec 32 := Scalar.addi c0_i32_2968 v2903
  v2904.toNat
def k0_dev122 (v1 : BitVec 32) : Nat :=
  let c0_i32_2994 : BitVec 32 := 0#32
  let c1_i32_2993 : BitVec 32 := 1#32
  let v2927 : BitVec 32 := Scalar.muli v1 c1_i32_2993
  let v2928 : BitVec 32 := Scalar.addi c0_i32_2994 v2927
  v2928.toNat

def k0_chk1_0 (v1 : BitVec 32) : Prop :=
  ((k0_dev1 v1) < nD) ∧
  ((k0_dev3 v1) < nD) ∧
  ((k0_dev5 v1) < nD) ∧
  ((k0_dev7 v1) < nD) ∧
  ((k0_dev9 v1) < nD) ∧
  ((k0_dev11 v1) < nD) ∧
  ((k0_dev13 v1) < nD) ∧
  ((k0_dev15 v1) < nD) ∧
  ((k0_dev17 v1) < nD) ∧
  ((k0_dev19 v1) < nD) ∧
  ((k0_dev21 v1) < nD) ∧
  ((k0_dev23 v1) < nD) ∧
  ((k0_dev25 v1) < nD) ∧
  ((k0_dev27 v1) < nD) ∧
  ((k0_dev29 v1) < nD) ∧
  ((k0_dev31 v1) < nD) ∧
  ((k0_dev33 v1) < nD) ∧
  ((k0_dev35 v1) < nD) ∧
  ((k0_dev37 v1) < nD) ∧
  ((k0_dev39 v1) < nD) ∧
  ((k0_dev41 v1) < nD) ∧
  ((k0_dev43 v1) < nD) ∧
  ((k0_dev45 v1) < nD) ∧
  ((k0_dev47 v1) < nD) ∧
  ((k0_dev49 v1) < nD) ∧
  ((k0_dev51 v1) < nD) ∧
  ((k0_dev53 v1) < nD) ∧
  ((k0_dev55 v1) < nD) ∧
  ((k0_dev57 v1) < nD) ∧
  ((k0_dev59 v1) < nD) ∧
  ((k0_dev61 v1) < nD) ∧
  ((k0_dev64 v1) < nD)
def k0_chk1_1 (v1 : BitVec 32) : Prop :=
  ((k0_dev66 v1) < nD) ∧
  ((k0_dev68 v1) < nD) ∧
  ((k0_dev70 v1) < nD) ∧
  ((k0_dev72 v1) < nD) ∧
  ((k0_dev74 v1) < nD) ∧
  ((k0_dev76 v1) < nD) ∧
  ((k0_dev78 v1) < nD) ∧
  ((k0_dev80 v1) < nD) ∧
  ((k0_dev82 v1) < nD) ∧
  ((k0_dev84 v1) < nD) ∧
  ((k0_dev86 v1) < nD) ∧
  ((k0_dev88 v1) < nD) ∧
  ((k0_dev90 v1) < nD) ∧
  ((k0_dev92 v1) < nD) ∧
  ((k0_dev94 v1) < nD) ∧
  ((k0_dev96 v1) < nD) ∧
  ((k0_dev98 v1) < nD) ∧
  ((k0_dev100 v1) < nD) ∧
  ((k0_dev102 v1) < nD) ∧
  ((k0_dev104 v1) < nD) ∧
  ((k0_dev106 v1) < nD) ∧
  ((k0_dev108 v1) < nD) ∧
  ((k0_dev110 v1) < nD) ∧
  ((k0_dev112 v1) < nD) ∧
  ((k0_dev114 v1) < nD) ∧
  ((k0_dev116 v1) < nD) ∧
  ((k0_dev118 v1) < nD) ∧
  ((k0_dev120 v1) < nD) ∧
  ((k0_dev122 v1) < nD)
def k0_chk1 (v1 : BitVec 32) : Prop :=
  k0_chk1_0 v1 ∧
  k0_chk1_1 v1
theorem k0_dev1_lt : ∀ (v1 : BitVec 32) (k0_hw1 : k0_chk1 v1), (k0_dev1 v1) < nD := fun v1 k0_hw1 => k0_hw1.1.1
theorem k0_dev3_lt : ∀ (v1 : BitVec 32) (k0_hw1 : k0_chk1 v1), (k0_dev3 v1) < nD := fun v1 k0_hw1 => k0_hw1.1.2.1
theorem k0_dev5_lt : ∀ (v1 : BitVec 32) (k0_hw1 : k0_chk1 v1), (k0_dev5 v1) < nD := fun v1 k0_hw1 => k0_hw1.1.2.2.1
theorem k0_dev7_lt : ∀ (v1 : BitVec 32) (k0_hw1 : k0_chk1 v1), (k0_dev7 v1) < nD := fun v1 k0_hw1 => k0_hw1.1.2.2.2.1
theorem k0_dev9_lt : ∀ (v1 : BitVec 32) (k0_hw1 : k0_chk1 v1), (k0_dev9 v1) < nD := fun v1 k0_hw1 => k0_hw1.1.2.2.2.2.1
theorem k0_dev11_lt : ∀ (v1 : BitVec 32) (k0_hw1 : k0_chk1 v1), (k0_dev11 v1) < nD := fun v1 k0_hw1 => k0_hw1.1.2.2.2.2.2.1
theorem k0_dev13_lt : ∀ (v1 : BitVec 32) (k0_hw1 : k0_chk1 v1), (k0_dev13 v1) < nD := fun v1 k0_hw1 => k0_hw1.1.2.2.2.2.2.2.1
theorem k0_dev15_lt : ∀ (v1 : BitVec 32) (k0_hw1 : k0_chk1 v1), (k0_dev15 v1) < nD := fun v1 k0_hw1 => k0_hw1.1.2.2.2.2.2.2.2.1
theorem k0_dev17_lt : ∀ (v1 : BitVec 32) (k0_hw1 : k0_chk1 v1), (k0_dev17 v1) < nD := fun v1 k0_hw1 => k0_hw1.1.2.2.2.2.2.2.2.2.1
theorem k0_dev19_lt : ∀ (v1 : BitVec 32) (k0_hw1 : k0_chk1 v1), (k0_dev19 v1) < nD := fun v1 k0_hw1 => k0_hw1.1.2.2.2.2.2.2.2.2.2.1
theorem k0_dev21_lt : ∀ (v1 : BitVec 32) (k0_hw1 : k0_chk1 v1), (k0_dev21 v1) < nD := fun v1 k0_hw1 => k0_hw1.1.2.2.2.2.2.2.2.2.2.2.1
theorem k0_dev23_lt : ∀ (v1 : BitVec 32) (k0_hw1 : k0_chk1 v1), (k0_dev23 v1) < nD := fun v1 k0_hw1 => k0_hw1.1.2.2.2.2.2.2.2.2.2.2.2.1
theorem k0_dev25_lt : ∀ (v1 : BitVec 32) (k0_hw1 : k0_chk1 v1), (k0_dev25 v1) < nD := fun v1 k0_hw1 => k0_hw1.1.2.2.2.2.2.2.2.2.2.2.2.2.1
theorem k0_dev27_lt : ∀ (v1 : BitVec 32) (k0_hw1 : k0_chk1 v1), (k0_dev27 v1) < nD := fun v1 k0_hw1 => k0_hw1.1.2.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.2.1
theorem k0_dev31_lt : ∀ (v1 : BitVec 32) (k0_hw1 : k0_chk1 v1), (k0_dev31 v1) < nD := fun v1 k0_hw1 => k0_hw1.1.2.2.2.2.2.2.2.2.2.2.2.2.2.2.2.1
theorem k0_dev33_lt : ∀ (v1 : BitVec 32) (k0_hw1 : k0_chk1 v1), (k0_dev33 v1) < nD := fun v1 k0_hw1 => k0_hw1.1.2.2.2.2.2.2.2.2.2.2.2.2.2.2.2.2.1
theorem k0_dev35_lt : ∀ (v1 : BitVec 32) (k0_hw1 : k0_chk1 v1), (k0_dev35 v1) < nD := fun v1 k0_hw1 => k0_hw1.1.2.2.2.2.2.2.2.2.2.2.2.2.2.2.2.2.2.1
theorem k0_dev37_lt : ∀ (v1 : BitVec 32) (k0_hw1 : k0_chk1 v1), (k0_dev37 v1) < nD := fun v1 k0_hw1 => k0_hw1.1.2.2.2.2.2.2.2.2.2.2.2.2.2.2.2.2.2.2.1
theorem k0_dev39_lt : ∀ (v1 : BitVec 32) (k0_hw1 : k0_chk1 v1), (k0_dev39 v1) < nD := fun v1 k0_hw1 => k0_hw1.1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.2.1
theorem k0_dev43_lt : ∀ (v1 : BitVec 32) (k0_hw1 : k0_chk1 v1), (k0_dev43 v1) < nD := fun v1 k0_hw1 => k0_hw1.1.2.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.1.2.2.2.2.2.2.2.2.2.2.2.2.2.2.2.2.2.2.2.2.2.2.1
theorem k0_dev47_lt : ∀ (v1 : BitVec 32) (k0_hw1 : k0_chk1 v1), (k0_dev47 v1) < nD := fun v1 k0_hw1 => k0_hw1.1.2.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.2.1
theorem k0_dev51_lt : ∀ (v1 : BitVec 32) (k0_hw1 : k0_chk1 v1), (k0_dev51 v1) < nD := fun v1 k0_hw1 => k0_hw1.1.2.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.1.2.2.2.2.2.2.2.2.2.2.2.2.2.2.2.2.2.2.2.2.2.2.2.2.2.2.1
theorem k0_dev55_lt : ∀ (v1 : BitVec 32) (k0_hw1 : k0_chk1 v1), (k0_dev55 v1) < nD := fun v1 k0_hw1 => k0_hw1.1.2.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.1.2.2.2.2.2.2.2.2.2.2.2.2.2.2.2.2.2.2.2.2.2.2.2.2.2.2.2.2.1
theorem k0_dev59_lt : ∀ (v1 : BitVec 32) (k0_hw1 : k0_chk1 v1), (k0_dev59 v1) < nD := fun v1 k0_hw1 => k0_hw1.1.2.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev66_lt : ∀ (v1 : BitVec 32) (k0_hw1 : k0_chk1 v1), (k0_dev66 v1) < nD := fun v1 k0_hw1 => k0_hw1.2.1
theorem k0_dev68_lt : ∀ (v1 : BitVec 32) (k0_hw1 : k0_chk1 v1), (k0_dev68 v1) < nD := fun v1 k0_hw1 => k0_hw1.2.2.1
theorem k0_dev70_lt : ∀ (v1 : BitVec 32) (k0_hw1 : k0_chk1 v1), (k0_dev70 v1) < nD := fun v1 k0_hw1 => k0_hw1.2.2.2.1
theorem k0_dev72_lt : ∀ (v1 : BitVec 32) (k0_hw1 : k0_chk1 v1), (k0_dev72 v1) < nD := fun v1 k0_hw1 => k0_hw1.2.2.2.2.1
theorem k0_dev74_lt : ∀ (v1 : BitVec 32) (k0_hw1 : k0_chk1 v1), (k0_dev74 v1) < nD := fun v1 k0_hw1 => k0_hw1.2.2.2.2.2.1
theorem k0_dev76_lt : ∀ (v1 : BitVec 32) (k0_hw1 : k0_chk1 v1), (k0_dev76 v1) < nD := fun v1 k0_hw1 => k0_hw1.2.2.2.2.2.2.1
theorem k0_dev78_lt : ∀ (v1 : BitVec 32) (k0_hw1 : k0_chk1 v1), (k0_dev78 v1) < nD := fun v1 k0_hw1 => k0_hw1.2.2.2.2.2.2.2.1
theorem k0_dev80_lt : ∀ (v1 : BitVec 32) (k0_hw1 : k0_chk1 v1), (k0_dev80 v1) < nD := fun v1 k0_hw1 => k0_hw1.2.2.2.2.2.2.2.2.1
theorem k0_dev82_lt : ∀ (v1 : BitVec 32) (k0_hw1 : k0_chk1 v1), (k0_dev82 v1) < nD := fun v1 k0_hw1 => k0_hw1.2.2.2.2.2.2.2.2.2.1
theorem k0_dev84_lt : ∀ (v1 : BitVec 32) (k0_hw1 : k0_chk1 v1), (k0_dev84 v1) < nD := fun v1 k0_hw1 => k0_hw1.2.2.2.2.2.2.2.2.2.2.1
theorem k0_dev86_lt : ∀ (v1 : BitVec 32) (k0_hw1 : k0_chk1 v1), (k0_dev86 v1) < nD := fun v1 k0_hw1 => k0_hw1.2.2.2.2.2.2.2.2.2.2.2.1
theorem k0_dev88_lt : ∀ (v1 : BitVec 32) (k0_hw1 : k0_chk1 v1), (k0_dev88 v1) < nD := fun v1 k0_hw1 => k0_hw1.2.2.2.2.2.2.2.2.2.2.2.2.1
theorem k0_dev90_lt : ∀ (v1 : BitVec 32) (k0_hw1 : k0_chk1 v1), (k0_dev90 v1) < nD := fun v1 k0_hw1 => k0_hw1.2.2.2.2.2.2.2.2.2.2.2.2.2.1
theorem k0_dev92_lt : ∀ (v1 : BitVec 32) (k0_hw1 : k0_chk1 v1), (k0_dev92 v1) < nD := fun v1 k0_hw1 => k0_hw1.2.2.2.2.2.2.2.2.2.2.2.2.2.2.1
theorem k0_dev94_lt : ∀ (v1 : BitVec 32) (k0_hw1 : k0_chk1 v1), (k0_dev94 v1) < nD := fun v1 k0_hw1 => k0_hw1.2.2.2.2.2.2.2.2.2.2.2.2.2.2.2.1
theorem k0_dev96_lt : ∀ (v1 : BitVec 32) (k0_hw1 : k0_chk1 v1), (k0_dev96 v1) < nD := fun v1 k0_hw1 => k0_hw1.2.2.2.2.2.2.2.2.2.2.2.2.2.2.2.2.1
theorem k0_dev98_lt : ∀ (v1 : BitVec 32) (k0_hw1 : k0_chk1 v1), (k0_dev98 v1) < nD := fun v1 k0_hw1 => k0_hw1.2.2.2.2.2.2.2.2.2.2.2.2.2.2.2.2.2.1
theorem k0_dev100_lt : ∀ (v1 : BitVec 32) (k0_hw1 : k0_chk1 v1), (k0_dev100 v1) < nD := fun v1 k0_hw1 => k0_hw1.2.2.2.2.2.2.2.2.2.2.2.2.2.2.2.2.2.2.1
theorem k0_dev102_lt : ∀ (v1 : BitVec 32) (k0_hw1 : k0_chk1 v1), (k0_dev102 v1) < nD := fun v1 k0_hw1 => k0_hw1.2.2.2.2.2.2.2.2.2.2.2.2.2.2.2.2.2.2.2.1
theorem k0_dev104_lt : ∀ (v1 : BitVec 32) (k0_hw1 : k0_chk1 v1), (k0_dev104 v1) < nD := fun v1 k0_hw1 => k0_hw1.2.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.2.2.2.2.2.2.2.2.2.2.2.2.2.2.2.2.2.2.2.2.1
theorem k0_dev108_lt : ∀ (v1 : BitVec 32) (k0_hw1 : k0_chk1 v1), (k0_dev108 v1) < nD := fun v1 k0_hw1 => k0_hw1.2.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.2.2.2.2.2.2.2.2.2.2.2.2.2.2.2.2.2.2.2.2.2.2.2.1
theorem k0_dev114_lt : ∀ (v1 : BitVec 32) (k0_hw1 : k0_chk1 v1), (k0_dev114 v1) < nD := fun v1 k0_hw1 => k0_hw1.2.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.2.2.2.2.2.2.2.2.2.2.2.2.2.2.2.2.2.2.2.2.2.2.2.2.2.2.1
theorem k0_dev120_lt : ∀ (v1 : BitVec 32) (k0_hw1 : k0_chk1 v1), (k0_dev120 v1) < nD := fun v1 k0_hw1 => k0_hw1.2.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.2.2.2.2.2.2.2.2.2.2.2.2.2.2.2.2.2.2.2.2.2.2.2.2.2.2.2.2

def k0_dev123 (v2 : BitVec 32) : Nat :=
  let c0_i32_3014 : BitVec 32 := 0#32
  let c1_i32_3013 : BitVec 32 := 1#32
  let v2945 : BitVec 32 := Scalar.muli v2 c1_i32_3013
  let v2946 : BitVec 32 := Scalar.addi c0_i32_3014 v2945
  v2946.toNat

def k0_chk3_0 (v2 : BitVec 32) : Prop :=
  ((k0_dev2 v2) < nD) ∧
  ((k0_dev4 v2) < nD) ∧
  ((k0_dev6 v2) < nD) ∧
  ((k0_dev8 v2) < nD) ∧
  ((k0_dev10 v2) < nD) ∧
  ((k0_dev12 v2) < nD) ∧
  ((k0_dev14 v2) < nD) ∧
  ((k0_dev16 v2) < nD) ∧
  ((k0_dev18 v2) < nD) ∧
  ((k0_dev20 v2) < nD) ∧
  ((k0_dev22 v2) < nD) ∧
  ((k0_dev24 v2) < nD) ∧
  ((k0_dev26 v2) < nD) ∧
  ((k0_dev28 v2) < nD) ∧
  ((k0_dev30 v2) < nD) ∧
  ((k0_dev32 v2) < nD) ∧
  ((k0_dev34 v2) < nD) ∧
  ((k0_dev36 v2) < nD) ∧
  ((k0_dev38 v2) < nD) ∧
  ((k0_dev40 v2) < nD) ∧
  ((k0_dev42 v2) < nD) ∧
  ((k0_dev44 v2) < nD) ∧
  ((k0_dev46 v2) < nD) ∧
  ((k0_dev48 v2) < nD) ∧
  ((k0_dev50 v2) < nD) ∧
  ((k0_dev52 v2) < nD) ∧
  ((k0_dev54 v2) < nD) ∧
  ((k0_dev56 v2) < nD) ∧
  ((k0_dev58 v2) < nD) ∧
  ((k0_dev60 v2) < nD) ∧
  ((k0_dev62 v2) < nD) ∧
  ((k0_dev63 v2) < nD)
def k0_chk3_1 (v2 : BitVec 32) : Prop :=
  ((k0_dev65 v2) < nD) ∧
  ((k0_dev67 v2) < nD) ∧
  ((k0_dev69 v2) < nD) ∧
  ((k0_dev71 v2) < nD) ∧
  ((k0_dev73 v2) < nD) ∧
  ((k0_dev75 v2) < nD) ∧
  ((k0_dev77 v2) < nD) ∧
  ((k0_dev79 v2) < nD) ∧
  ((k0_dev81 v2) < nD) ∧
  ((k0_dev83 v2) < nD) ∧
  ((k0_dev85 v2) < nD) ∧
  ((k0_dev87 v2) < nD) ∧
  ((k0_dev89 v2) < nD) ∧
  ((k0_dev91 v2) < nD) ∧
  ((k0_dev93 v2) < nD) ∧
  ((k0_dev95 v2) < nD) ∧
  ((k0_dev97 v2) < nD) ∧
  ((k0_dev99 v2) < nD) ∧
  ((k0_dev101 v2) < nD) ∧
  ((k0_dev103 v2) < nD) ∧
  ((k0_dev105 v2) < nD) ∧
  ((k0_dev107 v2) < nD) ∧
  ((k0_dev109 v2) < nD) ∧
  ((k0_dev111 v2) < nD) ∧
  ((k0_dev113 v2) < nD) ∧
  ((k0_dev115 v2) < nD) ∧
  ((k0_dev117 v2) < nD) ∧
  ((k0_dev119 v2) < nD) ∧
  ((k0_dev121 v2) < nD) ∧
  ((k0_dev123 v2) < nD)
def k0_chk3 (v2 : BitVec 32) : Prop :=
  k0_chk3_0 v2 ∧
  k0_chk3_1 v2
theorem k0_dev2_lt : ∀ (v2 : BitVec 32) (k0_hw3 : k0_chk3 v2), (k0_dev2 v2) < nD := fun v2 k0_hw3 => k0_hw3.1.1
theorem k0_dev4_lt : ∀ (v2 : BitVec 32) (k0_hw3 : k0_chk3 v2), (k0_dev4 v2) < nD := fun v2 k0_hw3 => k0_hw3.1.2.1
theorem k0_dev6_lt : ∀ (v2 : BitVec 32) (k0_hw3 : k0_chk3 v2), (k0_dev6 v2) < nD := fun v2 k0_hw3 => k0_hw3.1.2.2.1
theorem k0_dev8_lt : ∀ (v2 : BitVec 32) (k0_hw3 : k0_chk3 v2), (k0_dev8 v2) < nD := fun v2 k0_hw3 => k0_hw3.1.2.2.2.1
theorem k0_dev10_lt : ∀ (v2 : BitVec 32) (k0_hw3 : k0_chk3 v2), (k0_dev10 v2) < nD := fun v2 k0_hw3 => k0_hw3.1.2.2.2.2.1
theorem k0_dev12_lt : ∀ (v2 : BitVec 32) (k0_hw3 : k0_chk3 v2), (k0_dev12 v2) < nD := fun v2 k0_hw3 => k0_hw3.1.2.2.2.2.2.1
theorem k0_dev14_lt : ∀ (v2 : BitVec 32) (k0_hw3 : k0_chk3 v2), (k0_dev14 v2) < nD := fun v2 k0_hw3 => k0_hw3.1.2.2.2.2.2.2.1
theorem k0_dev16_lt : ∀ (v2 : BitVec 32) (k0_hw3 : k0_chk3 v2), (k0_dev16 v2) < nD := fun v2 k0_hw3 => k0_hw3.1.2.2.2.2.2.2.2.1
theorem k0_dev18_lt : ∀ (v2 : BitVec 32) (k0_hw3 : k0_chk3 v2), (k0_dev18 v2) < nD := fun v2 k0_hw3 => k0_hw3.1.2.2.2.2.2.2.2.2.1
theorem k0_dev20_lt : ∀ (v2 : BitVec 32) (k0_hw3 : k0_chk3 v2), (k0_dev20 v2) < nD := fun v2 k0_hw3 => k0_hw3.1.2.2.2.2.2.2.2.2.2.1
theorem k0_dev22_lt : ∀ (v2 : BitVec 32) (k0_hw3 : k0_chk3 v2), (k0_dev22 v2) < nD := fun v2 k0_hw3 => k0_hw3.1.2.2.2.2.2.2.2.2.2.2.1
theorem k0_dev24_lt : ∀ (v2 : BitVec 32) (k0_hw3 : k0_chk3 v2), (k0_dev24 v2) < nD := fun v2 k0_hw3 => k0_hw3.1.2.2.2.2.2.2.2.2.2.2.2.1
theorem k0_dev26_lt : ∀ (v2 : BitVec 32) (k0_hw3 : k0_chk3 v2), (k0_dev26 v2) < nD := fun v2 k0_hw3 => k0_hw3.1.2.2.2.2.2.2.2.2.2.2.2.2.1
theorem k0_dev28_lt : ∀ (v2 : BitVec 32) (k0_hw3 : k0_chk3 v2), (k0_dev28 v2) < nD := fun v2 k0_hw3 => k0_hw3.1.2.2.2.2.2.2.2.2.2.2.2.2.2.1
theorem k0_dev30_lt : ∀ (v2 : BitVec 32) (k0_hw3 : k0_chk3 v2), (k0_dev30 v2) < nD := fun v2 k0_hw3 => k0_hw3.1.2.2.2.2.2.2.2.2.2.2.2.2.2.2.1
theorem k0_dev32_lt : ∀ (v2 : BitVec 32) (k0_hw3 : k0_chk3 v2), (k0_dev32 v2) < nD := fun v2 k0_hw3 => k0_hw3.1.2.2.2.2.2.2.2.2.2.2.2.2.2.2.2.1
theorem k0_dev34_lt : ∀ (v2 : BitVec 32) (k0_hw3 : k0_chk3 v2), (k0_dev34 v2) < nD := fun v2 k0_hw3 => k0_hw3.1.2.2.2.2.2.2.2.2.2.2.2.2.2.2.2.2.1
theorem k0_dev36_lt : ∀ (v2 : BitVec 32) (k0_hw3 : k0_chk3 v2), (k0_dev36 v2) < nD := fun v2 k0_hw3 => k0_hw3.1.2.2.2.2.2.2.2.2.2.2.2.2.2.2.2.2.2.1
theorem k0_dev38_lt : ∀ (v2 : BitVec 32) (k0_hw3 : k0_chk3 v2), (k0_dev38 v2) < nD := fun v2 k0_hw3 => k0_hw3.1.2.2.2.2.2.2.2.2.2.2.2.2.2.2.2.2.2.2.1
theorem k0_dev40_lt : ∀ (v2 : BitVec 32) (k0_hw3 : k0_chk3 v2), (k0_dev40 v2) < nD := fun v2 k0_hw3 => k0_hw3.1.2.2.2.2.2.2.2.2.2.2.2.2.2.2.2.2.2.2.2.1
theorem k0_dev42_lt : ∀ (v2 : BitVec 32) (k0_hw3 : k0_chk3 v2), (k0_dev42 v2) < nD := fun v2 k0_hw3 => k0_hw3.1.2.2.2.2.2.2.2.2.2.2.2.2.2.2.2.2.2.2.2.2.1
theorem k0_dev44_lt : ∀ (v2 : BitVec 32) (k0_hw3 : k0_chk3 v2), (k0_dev44 v2) < nD := fun v2 k0_hw3 => k0_hw3.1.2.2.2.2.2.2.2.2.2.2.2.2.2.2.2.2.2.2.2.2.2.1
theorem k0_dev46_lt : ∀ (v2 : BitVec 32) (k0_hw3 : k0_chk3 v2), (k0_dev46 v2) < nD := fun v2 k0_hw3 => k0_hw3.1.2.2.2.2.2.2.2.2.2.2.2.2.2.2.2.2.2.2.2.2.2.2.1
theorem k0_dev48_lt : ∀ (v2 : BitVec 32) (k0_hw3 : k0_chk3 v2), (k0_dev48 v2) < nD := fun v2 k0_hw3 => k0_hw3.1.2.2.2.2.2.2.2.2.2.2.2.2.2.2.2.2.2.2.2.2.2.2.2.1
theorem k0_dev50_lt : ∀ (v2 : BitVec 32) (k0_hw3 : k0_chk3 v2), (k0_dev50 v2) < nD := fun v2 k0_hw3 => k0_hw3.1.2.2.2.2.2.2.2.2.2.2.2.2.2.2.2.2.2.2.2.2.2.2.2.2.1
theorem k0_dev52_lt : ∀ (v2 : BitVec 32) (k0_hw3 : k0_chk3 v2), (k0_dev52 v2) < nD := fun v2 k0_hw3 => k0_hw3.1.2.2.2.2.2.2.2.2.2.2.2.2.2.2.2.2.2.2.2.2.2.2.2.2.2.1
theorem k0_dev54_lt : ∀ (v2 : BitVec 32) (k0_hw3 : k0_chk3 v2), (k0_dev54 v2) < nD := fun v2 k0_hw3 => k0_hw3.1.2.2.2.2.2.2.2.2.2.2.2.2.2.2.2.2.2.2.2.2.2.2.2.2.2.2.1
theorem k0_dev56_lt : ∀ (v2 : BitVec 32) (k0_hw3 : k0_chk3 v2), (k0_dev56 v2) < nD := fun v2 k0_hw3 => k0_hw3.1.2.2.2.2.2.2.2.2.2.2.2.2.2.2.2.2.2.2.2.2.2.2.2.2.2.2.2.1
theorem k0_dev58_lt : ∀ (v2 : BitVec 32) (k0_hw3 : k0_chk3 v2), (k0_dev58 v2) < nD := fun v2 k0_hw3 => k0_hw3.1.2.2.2.2.2.2.2.2.2.2.2.2.2.2.2.2.2.2.2.2.2.2.2.2.2.2.2.2.1
theorem k0_dev60_lt : ∀ (v2 : BitVec 32) (k0_hw3 : k0_chk3 v2), (k0_dev60 v2) < nD := fun v2 k0_hw3 => k0_hw3.1.2.2.2.2.2.2.2.2.2.2.2.2.2.2.2.2.2.2.2.2.2.2.2.2.2.2.2.2.2.1
theorem k0_dev62_lt : ∀ (v2 : BitVec 32) (k0_hw3 : k0_chk3 v2), (k0_dev62 v2) < nD := fun v2 k0_hw3 => k0_hw3.1.2.2.2.2.2.2.2.2.2.2.2.2.2.2.2.2.2.2.2.2.2.2.2.2.2.2.2.2.2.2.1
theorem k0_dev63_lt : ∀ (v2 : BitVec 32) (k0_hw3 : k0_chk3 v2), (k0_dev63 v2) < nD := fun v2 k0_hw3 => k0_hw3.1.2.2.2.2.2.2.2.2.2.2.2.2.2.2.2.2.2.2.2.2.2.2.2.2.2.2.2.2.2.2.2
theorem k0_dev65_lt : ∀ (v2 : BitVec 32) (k0_hw3 : k0_chk3 v2), (k0_dev65 v2) < nD := fun v2 k0_hw3 => k0_hw3.2.1
theorem k0_dev67_lt : ∀ (v2 : BitVec 32) (k0_hw3 : k0_chk3 v2), (k0_dev67 v2) < nD := fun v2 k0_hw3 => k0_hw3.2.2.1
theorem k0_dev69_lt : ∀ (v2 : BitVec 32) (k0_hw3 : k0_chk3 v2), (k0_dev69 v2) < nD := fun v2 k0_hw3 => k0_hw3.2.2.2.1
theorem k0_dev71_lt : ∀ (v2 : BitVec 32) (k0_hw3 : k0_chk3 v2), (k0_dev71 v2) < nD := fun v2 k0_hw3 => k0_hw3.2.2.2.2.1
theorem k0_dev73_lt : ∀ (v2 : BitVec 32) (k0_hw3 : k0_chk3 v2), (k0_dev73 v2) < nD := fun v2 k0_hw3 => k0_hw3.2.2.2.2.2.1
theorem k0_dev75_lt : ∀ (v2 : BitVec 32) (k0_hw3 : k0_chk3 v2), (k0_dev75 v2) < nD := fun v2 k0_hw3 => k0_hw3.2.2.2.2.2.2.1
theorem k0_dev77_lt : ∀ (v2 : BitVec 32) (k0_hw3 : k0_chk3 v2), (k0_dev77 v2) < nD := fun v2 k0_hw3 => k0_hw3.2.2.2.2.2.2.2.1
theorem k0_dev79_lt : ∀ (v2 : BitVec 32) (k0_hw3 : k0_chk3 v2), (k0_dev79 v2) < nD := fun v2 k0_hw3 => k0_hw3.2.2.2.2.2.2.2.2.1
theorem k0_dev81_lt : ∀ (v2 : BitVec 32) (k0_hw3 : k0_chk3 v2), (k0_dev81 v2) < nD := fun v2 k0_hw3 => k0_hw3.2.2.2.2.2.2.2.2.2.1
theorem k0_dev83_lt : ∀ (v2 : BitVec 32) (k0_hw3 : k0_chk3 v2), (k0_dev83 v2) < nD := fun v2 k0_hw3 => k0_hw3.2.2.2.2.2.2.2.2.2.2.1
theorem k0_dev85_lt : ∀ (v2 : BitVec 32) (k0_hw3 : k0_chk3 v2), (k0_dev85 v2) < nD := fun v2 k0_hw3 => k0_hw3.2.2.2.2.2.2.2.2.2.2.2.1
theorem k0_dev87_lt : ∀ (v2 : BitVec 32) (k0_hw3 : k0_chk3 v2), (k0_dev87 v2) < nD := fun v2 k0_hw3 => k0_hw3.2.2.2.2.2.2.2.2.2.2.2.2.1
theorem k0_dev89_lt : ∀ (v2 : BitVec 32) (k0_hw3 : k0_chk3 v2), (k0_dev89 v2) < nD := fun v2 k0_hw3 => k0_hw3.2.2.2.2.2.2.2.2.2.2.2.2.2.1
theorem k0_dev91_lt : ∀ (v2 : BitVec 32) (k0_hw3 : k0_chk3 v2), (k0_dev91 v2) < nD := fun v2 k0_hw3 => k0_hw3.2.2.2.2.2.2.2.2.2.2.2.2.2.2.1
theorem k0_dev93_lt : ∀ (v2 : BitVec 32) (k0_hw3 : k0_chk3 v2), (k0_dev93 v2) < nD := fun v2 k0_hw3 => k0_hw3.2.2.2.2.2.2.2.2.2.2.2.2.2.2.2.1
theorem k0_dev95_lt : ∀ (v2 : BitVec 32) (k0_hw3 : k0_chk3 v2), (k0_dev95 v2) < nD := fun v2 k0_hw3 => k0_hw3.2.2.2.2.2.2.2.2.2.2.2.2.2.2.2.2.1
theorem k0_dev97_lt : ∀ (v2 : BitVec 32) (k0_hw3 : k0_chk3 v2), (k0_dev97 v2) < nD := fun v2 k0_hw3 => k0_hw3.2.2.2.2.2.2.2.2.2.2.2.2.2.2.2.2.2.1
theorem k0_dev99_lt : ∀ (v2 : BitVec 32) (k0_hw3 : k0_chk3 v2), (k0_dev99 v2) < nD := fun v2 k0_hw3 => k0_hw3.2.2.2.2.2.2.2.2.2.2.2.2.2.2.2.2.2.2.1
theorem k0_dev101_lt : ∀ (v2 : BitVec 32) (k0_hw3 : k0_chk3 v2), (k0_dev101 v2) < nD := fun v2 k0_hw3 => k0_hw3.2.2.2.2.2.2.2.2.2.2.2.2.2.2.2.2.2.2.2.1
theorem k0_dev103_lt : ∀ (v2 : BitVec 32) (k0_hw3 : k0_chk3 v2), (k0_dev103 v2) < nD := fun v2 k0_hw3 => k0_hw3.2.2.2.2.2.2.2.2.2.2.2.2.2.2.2.2.2.2.2.2.1
theorem k0_dev105_lt : ∀ (v2 : BitVec 32) (k0_hw3 : k0_chk3 v2), (k0_dev105 v2) < nD := fun v2 k0_hw3 => k0_hw3.2.2.2.2.2.2.2.2.2.2.2.2.2.2.2.2.2.2.2.2.2.1
theorem k0_dev107_lt : ∀ (v2 : BitVec 32) (k0_hw3 : k0_chk3 v2), (k0_dev107 v2) < nD := fun v2 k0_hw3 => k0_hw3.2.2.2.2.2.2.2.2.2.2.2.2.2.2.2.2.2.2.2.2.2.2.1
theorem k0_dev109_lt : ∀ (v2 : BitVec 32) (k0_hw3 : k0_chk3 v2), (k0_dev109 v2) < nD := fun v2 k0_hw3 => k0_hw3.2.2.2.2.2.2.2.2.2.2.2.2.2.2.2.2.2.2.2.2.2.2.2.1
theorem k0_dev111_lt : ∀ (v2 : BitVec 32) (k0_hw3 : k0_chk3 v2), (k0_dev111 v2) < nD := fun v2 k0_hw3 => k0_hw3.2.2.2.2.2.2.2.2.2.2.2.2.2.2.2.2.2.2.2.2.2.2.2.2.1
theorem k0_dev113_lt : ∀ (v2 : BitVec 32) (k0_hw3 : k0_chk3 v2), (k0_dev113 v2) < nD := fun v2 k0_hw3 => k0_hw3.2.2.2.2.2.2.2.2.2.2.2.2.2.2.2.2.2.2.2.2.2.2.2.2.2.1
theorem k0_dev115_lt : ∀ (v2 : BitVec 32) (k0_hw3 : k0_chk3 v2), (k0_dev115 v2) < nD := fun v2 k0_hw3 => k0_hw3.2.2.2.2.2.2.2.2.2.2.2.2.2.2.2.2.2.2.2.2.2.2.2.2.2.2.1
theorem k0_dev117_lt : ∀ (v2 : BitVec 32) (k0_hw3 : k0_chk3 v2), (k0_dev117 v2) < nD := fun v2 k0_hw3 => k0_hw3.2.2.2.2.2.2.2.2.2.2.2.2.2.2.2.2.2.2.2.2.2.2.2.2.2.2.2.1
theorem k0_dev119_lt : ∀ (v2 : BitVec 32) (k0_hw3 : k0_chk3 v2), (k0_dev119 v2) < nD := fun v2 k0_hw3 => k0_hw3.2.2.2.2.2.2.2.2.2.2.2.2.2.2.2.2.2.2.2.2.2.2.2.2.2.2.2.2.1
theorem k0_dev121_lt : ∀ (v2 : BitVec 32) (k0_hw3 : k0_chk3 v2), (k0_dev121 v2) < nD := fun v2 k0_hw3 => k0_hw3.2.2.2.2.2.2.2.2.2.2.2.2.2.2.2.2.2.2.2.2.2.2.2.2.2.2.2.2.2.1
theorem k0_dev123_lt : ∀ (v2 : BitVec 32) (k0_hw3 : k0_chk3 v2), (k0_dev123 v2) < nD := fun v2 k0_hw3 => k0_hw3.2.2.2.2.2.2.2.2.2.2.2.2.2.2.2.2.2.2.2.2.2.2.2.2.2.2.2.2.2.2

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S32768x2048, .bf16⟩
  | .hbm, ⟨2, _⟩ => ⟨S2048x32768, .f32⟩
  | .hbm, ⟨3, _⟩ => ⟨S32768x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Ring.lean ====
/-
  The ring the kernel's devices form: where a device stands on it, who stands before it and who after it.
-/
module

public import proofs.«01_k».proof.Proof.Gen.KernelIdeal

@[expose] public section

namespace Cert.Proof

open Cert.KernelIdeal
open Idealize.ShloMosaic

/-- The device at each position of the ring. -/
def cyc : Fin 32 → Dev nD := ![0, 3, 4, 7, 15, 12, 11, 8, 16, 19, 20, 23, 31, 28, 27, 24,
  25, 26, 29, 30, 22, 21, 18, 17, 9, 10, 13, 14, 6, 5, 2, 1]

/-- The position of each device. -/
def pos : Dev nD → Fin 32 := ![0, 31, 30, 1, 2, 29, 28, 3, 7, 24, 25, 6, 5, 26, 27, 4,
  8, 23, 22, 9, 10, 21, 20, 11, 15, 16, 17, 14, 13, 18, 19, 12]

theorem cyc_pos : ∀ c : Dev nD, cyc (pos c) = c := by decide
theorem pos_cyc : ∀ p : Fin 32, pos (cyc p) = p := by decide

/-- The device one position before. -/
def lft (c : Dev nD) : Dev nD := cyc (pos c - 1)
/-- The device one position after. -/
def rgt (c : Dev nD) : Dev nD := cyc (pos c + 1)

theorem pos_lft (c : Dev nD) : pos (lft c) = pos c - 1 := pos_cyc _
theorem pos_rgt (c : Dev nD) : pos (rgt c) = pos c + 1 := pos_cyc _
theorem lft_rgt : ∀ c : Dev nD, lft (rgt c) = c := by decide
theorem rgt_lft : ∀ c : Dev nD, rgt (lft c) = c := by decide

/-- One step along the ring, as a rearrangement of the devices. -/
def stepR : Dev nD ≃ Dev nD := ⟨rgt, lft, lft_rgt, rgt_lft⟩
/-- One step back. -/
def stepL : Dev nD ≃ Dev nD := ⟨lft, rgt, rgt_lft, lft_rgt⟩

/-- The devices by their positions. -/
def ringEquiv : Fin 32 ≃ Dev nD := ⟨cyc, pos, pos_cyc, cyc_pos⟩

end Cert.Proof

end
-- ==== Proof.Rolled.lean ====
/-
  The kernel body with its two loops of 31 exchanges rolled up. The printed body is 62 exchanges written one after
  another; here one exchange of each kind is written once, at a variable hop, and the body is their repetition. The
  equality of the two is by unfolding.
-/
module

public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.ShloMosaic.TcCoe Idealize.SL.Sem

variable {F : FTy → Type} [FloatOps F]

/-- A program of the TensorCore. -/
abbrev Pg (F : FTy → Type) := Prog (TpuEff nD τ sig (Elt F) Λ₀ .tc) PUnit

/-! ### One slot of a two-slot buffer -/

theorem slot_inb (h : ℕ) : ∀ a, (![h % 2, 0, 0] : Fin 3 → Nat) a + S1x64x2048.size a ≤ S2x64x2048.size a := by
  obtain h | h := Nat.mod_two_eq_zero_or_one h <;> rw [h] <;> decide

/-- The rectangle of slot `h % 2`. -/
abbrev slotR (h : ℕ) : Rect S2x64x2048 := Rect.unit (s := S2x64x2048) ![h % 2, 0, 0] S1x64x2048.size (slot_inb h)

theorem slot_words (h : ℕ) : (slotR h).WholeWords (EltTy.packing .bf16) := by
  have key : ∀ (n : ℕ) (hn : n = 0 ∨ n = 1) (hi : ∀ a, (![n, 0, 0] : Fin 3 → Nat) a + S1x64x2048.size a ≤ S2x64x2048.size a),
      (Rect.unit (s := S2x64x2048) ![n, 0, 0] S1x64x2048.size hi).WholeWords (EltTy.packing .bf16) := by
    rintro n (rfl | rfl) hi
    · exact wordsbf16_S2x64x2048_S1x64x2048_0_0_0
    · exact wordsbf16_S2x64x2048_S1x64x2048_1_0_0
  exact key _ (Nat.mod_two_eq_zero_or_one h) _

theorem slot_packed (h : ℕ) : (slotR h).PackedRows (EltTy.packing .bf16) := by
  have key : ∀ (n : ℕ) (hn : n = 0 ∨ n = 1) (hi : ∀ a, (![n, 0, 0] : Fin 3 → Nat) a + S1x64x2048.size a ≤ S2x64x2048.size a),
      (Rect.unit (s := S2x64x2048) ![n, 0, 0] S1x64x2048.size hi).PackedRows (EltTy.packing .bf16) := by
    rintro n (rfl | rfl) hi
    · exact packedbf16_S2x64x2048_S1x64x2048_0_0_0
    · exact packedbf16_S2x64x2048_S1x64x2048_1_0_0
  exact key _ (Nat.mod_two_eq_zero_or_one h) _

/-- Slot `h % 2` of a two-slot buffer, as the copies name it. -/
abbrev slotM (a : Memref sig .tc .vmem S2x64x2048 .bf16) (h : ℕ) : Memref sig .tc .vmem S64x2048 .bf16 :=
  (a.slice (slotR h) (fun _ => rfl)).squeeze S64x2048 squeezes_S1x64x2048_S64x2048

theorem slotM_words {a : Memref sig .tc .vmem S2x64x2048 .bf16} (ha : a.IsWhole) (h : ℕ) : (slotM a h).view.WordExact :=
  (ha.wordExact_slice rfl _ (slot_words h)).reshape _ _

theorem sem_inb (h : ℕ) : ∀ a, (![h % 2] : Fin 1 → Nat) a + S1.size a ≤ S2.size a := by
  obtain h | h := Nat.mod_two_eq_zero_or_one h <;> rw [h] <;> decide

/-- Semaphore `h % 2` of a pair. -/
abbrev semM (s : DmaSems sig S2) (h : ℕ) : DmaSem sig :=
  ((s.slice (Rect.unit (s := S2) ![h % 2] S1.size (sem_inb h))).squeeze S_ squeezes_S1_S_).sem

/-! ### The exchanges -/

section Body

variable (arg0 : Memref sig .tc .vmem S2048x1024 .bf16) (arg1 : Memref sig .tc .vmem S1024x2048 .bf16)
variable (arg2 : Memref sig .tc .smem S3 .i32) (arg3 : Memref sig .tc .vmem S2048x2048 .bf16) (harg3 : arg3.IsWhole)
variable (arg4 : Memref sig .tc .vmem S2x64x2048 .bf16) (harg4 : arg4.IsWhole)
variable (arg5 : Memref sig .tc .vmem S2x64x2048 .bf16) (harg5 : arg5.IsWhole)
variable (arg6 arg7 arg8 arg9 : DmaSems sig S2) (arg10 arg11 : Sems sig S_)

/-- Send slot `h` to the device `dst`'s slot `h + 1`. -/
def sendP (a : Memref sig .tc .vmem S2x64x2048 .bf16) (ha : a.IsWhole) (ss rs : DmaSems sig S2) (dst : Dev nD) (h : ℕ) (k : Pg F) : Pg F :=
  .op (.enqueueDma (slotM a h) (.remote (Dev.tc dst) (slotM a (h + 1)) (.dma (semM ss h))) (.dma (semM rs (h + 1)))
    (slotM_words ha h) (slotM_words ha (h + 1)) ⟨⟨rfl, Or.inl rfl⟩, trivial⟩) fun _ => k

/-- Wait until the copy out of slot `h` has been read. -/
def waitSendP (a : Memref sig .tc .vmem S2x64x2048 .bf16) (ha : a.IsWhole) (ss : DmaSems sig S2) (h : ℕ) (k : Pg F) : Pg F :=
  .op (.waitDma2 (semM ss h) (slotM a (h + 1)) (slotM a h) (slotM_words ha (h + 1)) (slotM_words ha h)) fun _ => k

/-- Wait until the copy into slot `h + 1` has landed. -/
def waitRecvP (a : Memref sig .tc .vmem S2x64x2048 .bf16) (ha : a.IsWhole) (rs : DmaSems sig S2) (h : ℕ) (k : Pg F) : Pg F :=
  .op (.waitDma2 (semM rs (h + 1)) (slotM a h) (slotM a (h + 1)) (slotM_words ha h) (slotM_words ha (h + 1))) fun _ => k

/-- Load slot `h`. -/
def loadSlotP (a : Memref sig .tc .vmem S2x64x2048 .bf16) (h : ℕ) (k : Vec F S1x64x2048 .bf16 → Pg F) : Pg F :=
  .op (.load a (slotR h).toLoadRect (View.loadsAt_vmem h_S1x64x2048)) k

/-- Store slot `h`. -/
def storeSlotP (a : Memref sig .tc .vmem S2x64x2048 .bf16) (ha : a.IsWhole) (h : ℕ) (v : Vec F S1x64x2048 .bf16) (k : Pg F) : Pg F :=
  .op (.store a (slotR h) v Finset.univ
    (View.stores_vmem h_S1x64x2048 (ha.storeExact_slice rfl _ (slot_packed h)) (fun _ => rfl)) (.inl rfl)) fun _ => k

/-- Load 64 rows of the first factor's block and the second factor's block. -/
def loadFactorsP (off : Fin 2 → ℕ) (hoff : ∀ a, off a + S64x1024.size a ≤ S2048x1024.size a)
    (k : Vec F S64x1024 .bf16 → Vec F S1024x2048 .bf16 → Pg F) : Pg F :=
  .op (.load arg0 (Rect.unit (s := S2048x1024) off S64x1024.size hoff).toLoadRect (View.loadsAt_vmem h_S64x1024)) fun a =>
  .op (.load arg1 (Rect.unit (s := S1024x2048) ![0, 0] S1024x2048.size inb_S1024x2048_S1024x2048_0_0).toLoadRect (View.loadsAt_vmem h_S1024x2048)) fun b => k a b

/-- Put 64 rows of the result. -/
def putRowsP (off : Fin 2 → ℕ) (hoff : ∀ a, off a + S64x2048.size a ≤ S2048x2048.size a)
    (hp : (Rect.unit (s := S2048x2048) off S64x2048.size hoff).PackedRows (EltTy.packing .bf16)) (v : Vec F S64x2048 .bf16) (k : Pg F) : Pg F :=
  .op (.load arg3 (Rect.unit (s := S2048x2048) off S64x2048.size hoff).toLoadRect (View.loadsAt_vmem h_S64x2048)) fun _ =>
  .op (.store arg3 (Rect.unit (s := S2048x2048) off S64x2048.size hoff) v Finset.univ
    (View.stores_vmem h_S64x2048 (harg3.storeExact_slice rfl _ hp) (fun _ => rfl)) (.inl rfl)) fun _ => k

variable (v0 : BitVec 32) (hv0 : k0_chk2 v0) (lft rgt : Dev nD)

theorem off2_inb {v0 : BitVec 32} (hv0 : k0_chk2 v0) (h : ℕ) (hh : h < 31) :
    ∀ a, k0_off2 v0 (BitVec.ofNat 32 h) a + S64x1024.size a ≤ S2048x1024.size a := k0_off2_inb v0 hv0 ⟨h, hh⟩
theorem off4_inb {v0 : BitVec 32} (hv0 : k0_chk2 v0) (h : ℕ) (hh : h < 31) :
    ∀ a, k0_off4 v0 (BitVec.ofNat 32 h) a + S64x2048.size a ≤ S2048x2048.size a := k0_off4_inb v0 hv0 ⟨h, hh⟩
theorem off4_packed {v0 : BitVec 32} (hv0 : k0_chk2 v0) (h : ℕ) (hh : h < 31) :
    (Rect.unit (s := S2048x2048) (k0_off4 v0 (BitVec.ofNat 32 h)) S64x2048.size (off4_inb hv0 h hh)).PackedRows (EltTy.packing .bf16) :=
  k0_off4_packedbf16 v0 hv0 ⟨h, hh⟩

/-- Hop `h` of the reduce-scatter: send, compute the own product meanwhile, receive, give the freed slot back, add, and
    wait for the next target slot. -/
def rsHop (h : ℕ) (hh : h < 31) (k : Pg F) : Pg F :=
  sendP arg4 harg4 arg6 arg7 rgt h <|
  loadFactorsP arg0 arg1 (k0_off2 v0 (BitVec.ofNat 32 h)) (off2_inb hv0 h hh) fun a b =>
  waitSendP arg4 harg4 arg6 h <| waitRecvP arg4 harg4 arg7 h <|
  .op (.semSignal (Dev.tc lft) arg10.sem (1#32).toInt) fun _ =>
  loadSlotP arg4 (h + 1) fun x => loadSlotP arg4 (h + 1) fun _ =>
  storeSlotP arg4 harg4 (h + 1) (k0_pay4 (k0_pay3 a b) x) <|
  .op (.semWait arg10.sem (1#32).toInt) fun _ => k

/-- Hops `h, …, h + n - 1` of the reduce-scatter. -/
def rsHops : (n h : ℕ) → (hh : h + n < 31) → (k : Pg F) → Pg F
  | 0, _, _, k => k
  | n + 1, h, hh, k => rsHop arg0 arg1 arg4 harg4 arg6 arg7 arg10 v0 hv0 lft rgt h (by omega) (rsHops n (h + 1) (by omega) k)

/-- The last hop of the reduce-scatter, the activation, and the own rows put in the result and in the first slot of the
    all-gather. -/
def rsLast (k : Pg F) : Pg F :=
  sendP arg4 harg4 arg6 arg7 rgt 30 <|
  loadFactorsP arg0 arg1 (k0_off2 v0 (BitVec.ofNat 32 30)) (off2_inb hv0 30 (by decide)) fun a b =>
  waitSendP arg4 harg4 arg6 30 <| waitRecvP arg4 harg4 arg7 30 <|
  loadSlotP arg4 31 fun x =>
  putRowsP arg3 harg3 (k0_off3 v0) (k0_off3_inb v0 hv0) (k0_off3_packedbf16 v0 hv0) (k0_pay64 (k0_pay63 a b) x) <|
  loadSlotP arg5 0 fun _ =>
  storeSlotP arg5 harg5 0 (k0_pay65 (k0_pay64 (k0_pay63 a b) x)) k

/-- Hop `h` of the all-gather. -/
def agHop (h : ℕ) (hh : h < 31) (k : Pg F) : Pg F :=
  sendP arg5 harg5 arg8 arg9 rgt h <|
  waitSendP arg5 harg5 arg8 h <| waitRecvP arg5 harg5 arg9 h <|
  .op (.semSignal (Dev.tc lft) arg11.sem (1#32).toInt) fun _ =>
  loadSlotP arg5 (h + 1) fun x =>
  putRowsP arg3 harg3 (k0_off4 v0 (BitVec.ofNat 32 h)) (off4_inb hv0 h hh) (off4_packed hv0 h hh) (k0_pay1 x) <|
  .op (.semWait arg11.sem (1#32).toInt) fun _ => k

/-- Hops `h, …, h + n - 1` of the all-gather. -/
def agHops : (n h : ℕ) → (hh : h + n < 31) → (k : Pg F) → Pg F
  | 0, _, _, k => k
  | n + 1, h, hh, k => agHop arg3 harg3 arg5 harg5 arg8 arg9 arg11 v0 hv0 lft rgt h (by omega) (agHops n (h + 1) (by omega) k)

/-- The last hop of the all-gather. -/
def agLast : Pg F :=
  sendP arg5 harg5 arg8 arg9 rgt 30 <|
  waitSendP arg5 harg5 arg8 30 <| waitRecvP arg5 harg5 arg9 30 <|
  loadSlotP arg5 31 fun x =>
  putRowsP arg3 harg3 (k0_off4 v0 (BitVec.ofNat 32 30)) (off4_inb hv0 30 (by decide)) (off4_packed hv0 30 (by decide)) (k0_pay1 x) (.ret ⟨⟩)

/-- All the exchanges, from the entry handshake on. -/
def talkP : Pg F :=
  .op (.semSignal (Dev.tc lft) (SemArray.scalar (sig.barrier 0 rfl) : Sems sig S_).sem (1#32).toInt) fun _ =>
  .op (.semWait (SemArray.scalar (sig.barrier 0 rfl) : Sems sig S_).sem (1#32).toInt) fun _ =>
  loadFactorsP arg0 arg1 (k0_off1 v0) (k0_off1_inb v0 hv0) fun a b =>
  loadSlotP arg4 0 fun _ => storeSlotP arg4 harg4 0 (k0_pay2 a b) <|
  rsHops arg0 arg1 arg4 harg4 arg6 arg7 arg10 v0 hv0 lft rgt 30 0 (by decide) <|
  rsLast arg0 arg1 arg3 harg3 arg4 harg4 arg5 harg5 arg6 arg7 v0 hv0 rgt <|
  agHops arg3 harg3 arg5 harg5 arg8 arg9 arg11 v0 hv0 lft rgt 30 0 (by decide) <|
  agLast arg3 harg3 arg5 harg5 arg8 arg9 v0 hv0 rgt

/-- The whole body: the three words read, then the exchanges. -/
def rolled : Pg F :=
  smemLoadElt arg2 (Rect.unit (s := S3) ![0] S1.size inb_S3_S1_0) (View.loads_smem_one rfl numel1_S1) (Shape.Idx.first (numel1_S1.symm ▸ Nat.one_pos)) fun v0 =>
  .op (TpuEff.assume (k0_chk2 v0) (k0_chk2.dec v0)) fun hv0 =>
  smemLoadElt arg2 (Rect.unit (s := S3) ![1] S1.size inb_S3_S1_1) (View.loads_smem_one rfl numel1_S1) (Shape.Idx.first (numel1_S1.symm ▸ Nat.one_pos)) fun v1 =>
  .op (TpuEff.assume (k0_chk1 v1) (k0_chk1.dec v1)) fun hv1 =>
  smemLoadElt arg2 (Rect.unit (s := S3) ![2] S1.size inb_S3_S1_2) (View.loads_smem_one rfl numel1_S1) (Shape.Idx.first (numel1_S1.symm ▸ Nat.one_pos)) fun v2 =>
  .op (TpuEff.assume (k0_chk3 v2) (k0_chk3.dec v2)) fun hv2 =>
  talkP arg0 arg1 arg3 harg3 arg4 harg4 arg5 harg5 arg6 arg7 arg8 arg9 arg10 arg11 v0 hv0.down
    ⟨k0_dev1 v1, k0_dev1_lt v1 hv1.down⟩ ⟨k0_dev2 v2, k0_dev2_lt v2 hv2.down⟩

set_option maxRecDepth 1000000 in
set_option maxHeartbeats 4000000 in
theorem body_eq_rolled (harg0 : arg0.IsWhole) (harg1 : arg1.IsWhole) (harg2 : arg2.IsWhole) :
    cc0_body (F := F) arg0 harg0 arg1 harg1 arg2 harg2 arg3 harg3 arg4 harg4 arg5 harg5 arg6 arg7 arg8 arg9 arg10 arg11
      = rolled arg0 arg1 arg2 arg3 harg3 arg4 harg4 arg5 harg5 arg6 arg7 arg8 arg9 arg10 arg11 := by
  rw [cc0_body_eq_skeleton]
  exact rfl

end Body

end Cert.Proof

end
-- ==== Proof.Cells.lean ====
/-
  The semaphores and the slots of the exchange, phase 0 being the reduce-scatter and phase 1 the all-gather.
-/
module

public import proofs.«01_k».proof.Proof.Ring
public import proofs.«01_k».proof.Proof.Rolled
public import proofs.«01_k».proof.Proof.Gen.KernelIdeal.Launch
public import Idealize.ShloMosaic.Lib.Rounds
public import Idealize.ShloMosaic.Lib.Pipeline.SiteBlocks

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

/-! ### Buffers and semaphores of a phase -/

/-- The two-slot buffer of a phase. -/
abbrev sbuf : Fin 2 → Memref sig .tc .vmem S2x64x2048 .bf16
  | 0 => Memref.whole cc0_scratch0
  | 1 => Memref.whole cc0_scratch1

theorem sbuf_whole : ∀ q, (sbuf q).IsWhole
  | 0 => Memref.isWhole_whole _
  | 1 => Memref.isWhole_whole _

/-- The semaphores a phase's sends are counted on. -/
abbrev ssem : Fin 2 → DmaSems sig S2
  | 0 => cc0_scratch2
  | 1 => cc0_scratch4

/-- The semaphores a phase's arrivals are counted on. -/
abbrev rsem : Fin 2 → DmaSems sig S2
  | 0 => cc0_scratch3
  | 1 => cc0_scratch5

/-- The semaphore of a phase on which freed slots are announced. -/
abbrev csem : Fin 2 → Sems sig S_
  | 0 => cc0_scratch6
  | 1 => cc0_scratch7

/-- The semaphore of the handshake at entry. -/
abbrev bsem : Sem sig := (SemArray.scalar (sig.barrier 0 rfl) : Sems sig S_).sem

abbrev barCell (c : Dev nD) : GSem nD τ sig := ((c : Thread nD τ), .reg bsem)
abbrev sendCell (q : Fin 2) (h : ℕ) (c : Dev nD) : GSem nD τ sig := ((c : Thread nD τ), .dma (semM (ssem q) h))
abbrev recvCell (q : Fin 2) (h : ℕ) (c : Dev nD) : GSem nD τ sig := ((c : Thread nD τ), .dma (semM (rsem q) h))
abbrev creditCell (q : Fin 2) (c : Dev nD) : GSem nD τ sig := ((c : Thread nD τ), .reg (csem q).sem)

/-- What a semaphore is for. -/
inductive Kd where
  | bar | snd (q s : Fin 2) | rcv (q s : Fin 2) | crd (q : Fin 2)
  deriving DecidableEq

/-- The parity of a hop. -/
def par (h : ℕ) : Fin 2 := ⟨h % 2, Nat.mod_lt _ (by decide)⟩
theorem par_add_two (h : ℕ) : par (h + 2) = par h := Fin.ext (Nat.add_mod_right h 2)
theorem par_cases (h : ℕ) : par h = 0 ∨ par h = 1 := by
  obtain e | e := Nat.mod_two_eq_zero_or_one h
  · exact .inl (Fin.ext e)
  · exact .inr (Fin.ext e)

/-- A semaphore's purpose; the four that stage the operands have none here. -/
def kind : SemLoc sig → Option Kd
  | .reg s => if s.val = 2 then some .bar else some (.crd (par s.val))
  | .dma i => if i.val < 4 then none
      else if (i.val / 2) % 2 = 0 then some (.snd (par (i.val / 4 - 1)) (par i.val)) else some (.rcv (par (i.val / 4 - 1)) (par i.val))

/-- Semaphore `h % 2` of a pair depends on the parity only. -/
theorem semM_par (s : DmaSems sig S2) (h : ℕ) : semM s h = semM s (par h).val := by
  have key : ∀ (n n' : ℕ) (e : n = n') (p : ∀ a, (![n] : Fin 1 → Nat) a + S1.size a ≤ S2.size a) (p' : ∀ a, (![n'] : Fin 1 → Nat) a + S1.size a ≤ S2.size a),
      ((s.slice (Rect.unit (s := S2) ![n] S1.size p)).squeeze S_ squeezes_S1_S_).sem = ((s.slice (Rect.unit (s := S2) ![n'] S1.size p')).squeeze S_ squeezes_S1_S_).sem := by
    rintro n _ rfl p p'; rfl
  exact key _ _ (Nat.mod_mod h 2).symm _ _
theorem semM_add_two (s : DmaSems sig S2) (h : ℕ) : semM s (h + 2) = semM s h := by
  rw [semM_par, par_add_two, ← semM_par]

theorem kind_bar : kind (.reg bsem) = some .bar := by decide
theorem kind_credit : ∀ q, kind (.reg (csem q).sem) = some (.crd q) := by decide
theorem kind_send (q : Fin 2) (h : ℕ) : kind (.dma (semM (ssem q) h)) = some (.snd q (par h)) := by
  rw [semM_par]; generalize par h = s; revert q s; decide
theorem kind_recv (q : Fin 2) (h : ℕ) : kind (.dma (semM (rsem q) h)) = some (.rcv q (par h)) := by
  rw [semM_par]; generalize par h = s; revert q s; decide

theorem sendCell_add_two (q : Fin 2) (h : ℕ) (c : Dev nD) : sendCell q (h + 2) c = sendCell q h c := by
  unfold sendCell; rw [semM_add_two]
theorem recvCell_add_two (q : Fin 2) (h : ℕ) (c : Dev nD) : recvCell q (h + 2) c = recvCell q h c := by
  unfold recvCell; rw [semM_add_two]

/-! ### Slots -/

theorem slotR_par (h : ℕ) : slotR h = slotR (par h).val := by
  have key : ∀ (n n' : ℕ) (e : n = n') (p p'), Rect.unit (s := S2x64x2048) ![n, 0, 0] S1x64x2048.size p = Rect.unit (s := S2x64x2048) ![n', 0, 0] S1x64x2048.size p' := by
    rintro n _ rfl p p'; rfl
  exact key _ _ (Nat.mod_mod h 2).symm _ _

variable {F : FTy → Type}

/-- The elements of slot `h % 2`. -/
def slotSet (q : Fin 2) (h : ℕ) : Finset ((sbuf q).view.ty.Idx) := ((sbuf q).access (slotR h)).set

/-- What slot `h % 2` holds when the buffer holds `f`. -/
def slotRd (q : Fin 2) (h : ℕ) (f : (sbuf q).view.ty.Contents (Elt F)) : Vec F S1x64x2048 .bf16 := ((sbuf q).access (slotR h)).read (Elt F) f

theorem slotSet_add_two (q : Fin 2) (h : ℕ) : slotSet q (h + 2) = slotSet q h := by
  have key : ∀ (n n' : ℕ) (e : n % 2 = n' % 2), slotSet q n = slotSet q n' := by
    intro n n' e; unfold slotSet
    have : slotR n = slotR n' := by rw [slotR_par n, slotR_par n', show par n = par n' from Fin.ext e]
    rw [this]
  exact key _ _ (Nat.add_mod_right h 2)

/-- One copy's units on a semaphore. -/
def Nc : ℕ := (slotM (sbuf 0) 0).view.dmaCredit

theorem Nc_pos : 0 < Nc := View.dmaCredit_pos _ (by decide)

theorem credit_eq (q : Fin 2) (h : ℕ) : (slotM (sbuf q) h).view.dmaCredit = Nc := by
  unfold Nc
  revert q; intro q; fin_cases q <;> rfl

theorem slotSet_slotM (q : Fin 2) (h : ℕ) : (slotM (sbuf q) h).view.set = slotSet q h := View.set_reshape _ _

/-- A copy from one slot to another carries over what the slot holds. -/
theorem slotRd_copy (q : Fin 2) (h h' : ℕ) (fd fs : (sbuf q).view.ty.Contents (Elt F)) :
    slotRd q h' ((slotM (sbuf q) h').view.write (Elt F) fd ((slotM (sbuf q) h).view.read (Elt F) fs) Finset.univ) = slotRd q h fs := by
  unfold slotRd
  have e := View.write_reshape_univ ((sbuf q).access (slotR h')) (Val := Elt F) squeezes_S1x64x2048_S64x2048.numel_eq fd ((slotM (sbuf q) h).view.read (Elt F) fs)
  refine (congrArg (fun g => ((sbuf q).access (slotR h')).read (Elt F) g) e).trans ?_
  rw [View.read_write_univ]
  funext x
  show ((sbuf q).access (slotR h)).read (Elt F) fs (Shape.reshapeEquiv _ ((Shape.reshapeEquiv _).symm x)) = _
  rw [Equiv.apply_symm_apply]

end Cert.Proof

end
-- ==== Proof.Protocol.lean ====
/-
  What each semaphore's units stand for: a unit on the entry semaphore hands over the right neighbour's free slots, a copy's
  units on the sender's side hand the sent slot back, on the receiver's side the slot with what was sent, and a unit of
  credit hands over the slot the right neighbour has just freed.
-/
module

public import proofs.«01_k».proof.Proof.Cells

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The certificate's part of the resources: the staging's and the exchange's. -/
abbrev UU : Type := UR sig nD τ × UR sig nD τ

local notation "𝕄" => MT nD τ sig ℕ (Elt F) ℕ UU ℕ

abbrev EP : Emb (UR sig nD τ) (MT nD τ sig ℕ (Elt F) ℕ UU ℕ) := embL
abbrev ER : Emb (UR sig nD τ) (MT nD τ sig ℕ (Elt F) ℕ UU ℕ) := embR

/-- Slot `h % 2` of device `c`, the buffer's elements there being `f`'s. -/
def slotPts (q : Fin 2) (h : ℕ) (c : Dev nD) (f : Buf (Elt F) ((sbuf q).view.loc (c : Thread nD τ))) : sProp 𝕄 :=
  (sbuf q).view.loc (c : Thread nD τ) ↦[slotSet q h]{fullShare} f

/-- Slot `h % 2` of device `c`, holding `X`. -/
def slotAt (q : Fin 2) (h : ℕ) (c : Dev nD) (X : Vec F S1x64x2048 .bf16) : sProp 𝕄 :=
  iprop(∃ f : Buf (Elt F) ((sbuf q).view.loc (c : Thread nD τ)), ⌜slotRd q h f = X⌝ ∗ slotPts q h c f)

/-- Slot `h % 2` of device `c`, whatever it holds. -/
def slotAny (q : Fin 2) (h : ℕ) (c : Dev nD) : sProp 𝕄 :=
  iprop(∃ f : Buf (Elt F) ((sbuf q).view.loc (c : Thread nD τ)), slotPts q h c f)

theorem slotAt_any (q : Fin 2) (h : ℕ) (c : Dev nD) (X : Vec F S1x64x2048 .bf16) : (slotAt q h c X : sProp 𝕄) ⊢ slotAny q h c := by
  unfold slotAt slotAny
  iintro ⟨%f, -, H⟩; iexists f; iexact H

theorem slotAny_congr (q : Fin 2) {h h' : ℕ} (e : h % 2 = h' % 2) (c : Dev nD) : (slotAny q h c : sProp 𝕄) = slotAny q h' c := by
  have key : slotSet q h = slotSet q h' := by
    unfold slotSet
    have : slotR h = slotR h' := by rw [slotR_par h, slotR_par h', show par h = par h' from Fin.ext e]
    rw [this]
  unfold slotAny slotPts; rw [key]

theorem slotRd_congr (q : Fin 2) {h h' : ℕ} (e : h % 2 = h' % 2) (f : (sbuf q).view.ty.Contents (Elt F)) : slotRd q h f = slotRd q h' f := by
  have key : ∀ (n n' : ℕ) (e : n = n') (p p'), (((sbuf q).access (Rect.unit (s := S2x64x2048) ![n, 0, 0] S1x64x2048.size p)).read (Elt F) f : Vec F S1x64x2048 .bf16)
      = ((sbuf q).access (Rect.unit (s := S2x64x2048) ![n', 0, 0] S1x64x2048.size p')).read (Elt F) f := by
    rintro n _ rfl p p'; rfl
  exact key _ _ e _ _

theorem slotAt_congr (q : Fin 2) {h h' : ℕ} (e : h % 2 = h' % 2) (c : Dev nD) (X : Vec F S1x64x2048 .bf16) :
    (slotAt q h c X : sProp 𝕄) = slotAt q h' c X := by
  have key : slotSet q h = slotSet q h' := by
    unfold slotSet
    have : slotR h = slotR h' := by rw [slotR_par h, slotR_par h', show par h = par h' from Fin.ext e]
    rw [this]
  unfold slotAt slotPts; rw [key]; simp only [slotRd_congr q e]

theorem recvCell_congr (q : Fin 2) {h h' : ℕ} (e : h % 2 = h' % 2) (c : Dev nD) : recvCell q h c = recvCell q h' c := by
  unfold recvCell; rw [semM_par, show par h = par h' from Fin.ext e, ← semM_par]
theorem sendCell_congr (q : Fin 2) {h h' : ℕ} (e : h % 2 = h' % 2) (c : Dev nD) : sendCell q h c = sendCell q h' c := by
  unfold sendCell; rw [semM_par, show par h = par h' from Fin.ext e, ← semM_par]

section Sched

variable (C : Fin 2 → ℕ → Dev nD → Vec F S1x64x2048 .bf16)

/-- The right neighbour's free slots, one of each phase, and that no arrival has been counted on them yet. -/
def barPay (c : Dev nD) : sProp 𝕄 :=
  iprop((slotAny 0 1 (rgt c) ∗ reached ER (recvCell 0 1 (rgt c)) 0) ∗ (slotAny 1 1 (rgt c) ∗ reached ER (recvCell 1 1 (rgt c)) 0))
/-- The sent slot back. -/
def sendPay (q : Fin 2) (h : ℕ) (c : Dev nD) : sProp 𝕄 := slotAny q h c
/-- The slot with what the left neighbour sent in hop `h`, and that the left neighbour has spent its credits so far. -/
def recvPay (q : Fin 2) (h : ℕ) (c : Dev nD) : sProp 𝕄 :=
  iprop(slotAt q (h + 1) c (C q h (lft c)) ∗ reached ER (creditCell q (lft c)) h)
/-- The slot the right neighbour freed in hop `k`. -/
def creditPay (q : Fin 2) (k : ℕ) (c : Dev nD) : sProp 𝕄 :=
  iprop(slotAny q k (rgt c) ∗ reached ER (recvCell q k (rgt c)) ((k + 1) / 2))

/-- A unit's payload, by the semaphore's purpose and the round. -/
def pay (c : Dev nD) : Option Kd → ℕ → sProp 𝕄
  | some .bar, _ => barPay c
  | some (.snd q s), _ => sendPay q s.val c
  | some (.rcv q s), r => recvPay C q (2 * r + 1 - s.val) c
  | some (.crd q), r => creditPay q r c
  | none, _ => iprop(emp)

/-- How many rounds a semaphore is used for. -/
def nrounds : Option Kd → ℕ
  | some .bar => 1
  | some (.snd _ s) => 16 - s.val
  | some (.rcv _ s) => 15 + s.val
  | some (.crd _) => 30
  | none => 0

/-- The units of a round. -/
def units : Option Kd → ℕ
  | some (.snd _ _) => Nc
  | some (.rcv _ _) => Nc
  | _ => 1

theorem units_pos (o : Option Kd) : 0 < units o := by
  unfold units; split <;> first | exact Nc_pos | exact Nat.one_pos

/-- The schedule of the exchange. -/
def talkRd : Rounds.Schedule (GSem nD τ sig) Unit 𝕄 where
  duties g r := if g.1.2 = .tc ∧ r < nrounds (kind g.2) then {()} else ∅
  unitless _ := False
  amount g _ _ := units (kind g.2)
  payload g r _ := pay C g.1.1 (kind g.2) r
  amount_pos g _ _ _ := units_pos _

instance slotAny_storable (q : Fin 2) (h : ℕ) (c : Dev nD) : BI.Storable (upEmb : UEmb _ 𝕄) (slotAny q h c) := by
  unfold slotAny slotPts; infer_instance
instance slotAt_storable (q : Fin 2) (h : ℕ) (c : Dev nD) (X : Vec F S1x64x2048 .bf16) : BI.Storable (upEmb : UEmb _ 𝕄) (slotAt q h c X) := by
  unfold slotAt slotPts; infer_instance

instance talkRd_payload_storable (g : GSem nD τ sig) (r : ℕ) (d : Unit) :
    BI.Storable (upEmb : UEmb _ 𝕄) ((talkRd C).payload g r d) := by
  show BI.Storable upEmb (pay C g.1.1 (kind g.2) r)
  unfold pay barPay sendPay recvPay creditPay
  (repeat' split) <;> infer_instance

theorem duties_at (c : Dev nD) (sm : SemLoc sig) (r : ℕ) (hr : r < nrounds (kind sm)) : () ∈ (talkRd C).duties ((c : Thread nD τ), sm) r := by
  show () ∈ (if _ then _ else _); rw [if_pos ⟨rfl, hr⟩]; exact Finset.mem_singleton_self _
theorem duties_eq (c : Dev nD) (sm : SemLoc sig) (r : ℕ) (hr : r < nrounds (kind sm)) : (talkRd C).duties ((c : Thread nD τ), sm) r = {()} := if_pos ⟨rfl, hr⟩
theorem duties_end (g : GSem nD τ sig) : ∀ r, nrounds (kind g.2) ≤ r → (talkRd C).duties g r = ∅ :=
  fun r hr => if_neg fun h => absurd h.2 (Nat.not_lt.mpr hr)

theorem expect_at (c : Dev nD) (sm : SemLoc sig) (r : ℕ) (hr : r < nrounds (kind sm)) : (talkRd C).expect ((c : Thread nD τ), sm) r = units (kind sm) := by
  unfold Schedule.expect Schedule.amountOf; rw [duties_eq C c sm r hr, Finset.sum_singleton]; rfl

theorem rest_at (c : Dev nD) (sm : SemLoc sig) (r : ℕ) (hr : r < nrounds (kind sm)) :
    bigSep ((talkRd C).duties ((c : Thread nD τ), sm) r \ ∅) (fun u => (talkRd C).payload ((c : Thread nD τ), sm) r u) = pay C c (kind sm) r := by
  rw [Finset.sdiff_empty, duties_eq C c sm r hr, bigSep_singleton]; rfl

/-! The rounds a hop uses. -/

theorem lt_send (q : Fin 2) (h : ℕ) (hh : h < 31) : h / 2 < nrounds (kind (.dma (semM (ssem q) h))) := by
  rw [kind_send]; show h / 2 < 16 - h % 2; omega
theorem lt_recv (q : Fin 2) (h : ℕ) (hh : h < 31) : h / 2 < nrounds (kind (.dma (semM (rsem q) (h + 1)))) := by
  rw [kind_recv]; show h / 2 < 15 + (h + 1) % 2; omega
theorem lt_credit (q : Fin 2) (k : ℕ) (hk : k < 30) : k < nrounds (kind (.reg (csem q).sem)) := by rw [kind_credit]; exact hk
theorem lt_bar : 0 < nrounds (kind (.reg bsem)) := by rw [kind_bar]; exact Nat.one_pos

theorem pay_send (q : Fin 2) (h : ℕ) (c : Dev nD) : pay C c (kind (.dma (semM (ssem q) h))) (h / 2) = slotAny q h c := by
  rw [kind_send]; exact slotAny_congr q (Nat.mod_mod h 2) c
theorem pay_recv (q : Fin 2) (h : ℕ) (c : Dev nD) : pay C c (kind (.dma (semM (rsem q) (h + 1)))) (h / 2) = recvPay C q h c := by
  rw [kind_recv]
  show recvPay C q (2 * (h / 2) + 1 - (h + 1) % 2) c = _
  rw [show 2 * (h / 2) + 1 - (h + 1) % 2 = h by omega]
theorem pay_credit (q : Fin 2) (k : ℕ) (c : Dev nD) : pay C c (kind (.reg (csem q).sem)) k = creditPay q k c := by rw [kind_credit]; rfl
theorem pay_bar (c : Dev nD) : pay C c (kind (.reg bsem)) 0 = barPay c := by rw [kind_bar]; rfl

theorem units_send (q : Fin 2) (h : ℕ) : units (kind (.dma (semM (ssem q) h))) = Nc := by rw [kind_send]; rfl
theorem units_recv (q : Fin 2) (h : ℕ) : units (kind (.dma (semM (rsem q) h))) = Nc := by rw [kind_recv]; rfl
theorem units_credit (q : Fin 2) : units (kind (.reg (csem q).sem)) = 1 := by rw [kind_credit]; rfl
theorem units_bar : units (kind (.reg bsem)) = 1 := by rw [kind_bar]; rfl

end Sched

/-! ### What is owed, and in what order it may be waited for -/

/-- The index of hop `h`'s arrival, and of the credit it frees. -/
def ixR (q : Fin 2) (h : ℕ) : ℕ := 2 + 2 * (32 * q.val + h)
def ixC (q : Fin 2) (h : ℕ) : ℕ := 3 + 2 * (32 * q.val + h)

abbrev Lx : GSem nD τ sig → Finset ℕ := SiteBlocks.L 200
abbrev lvx : GSem nD τ sig → ℕ → ℕ := SiteBlocks.lv

/-- Everything owed in `D` comes after index `i`. -/
def After (i : ℕ) (D : CellTallies nD τ sig ℕ) : Prop := ∀ g (k : ℕ), 0 < D g k → k ∈ Lx g ∧ i < k

theorem After.zero (i : ℕ) : After i 0 := fun _ _ h => absurd h (Nat.lt_irrefl 0)
theorem After.add {i : ℕ} {D D' : CellTallies nD τ sig ℕ} (h : After i D) (h' : After i D') : After i (D + D') := fun g k hk => by
  rw [Pi.add_apply, Finsupp.add_apply] at hk
  rcases Nat.add_pos_iff_pos_or_pos.mp hk with hk | hk
  · exact h g k hk
  · exact h' g k hk
theorem After.tally {i : ℕ} (c : Dev nD) (sm : SemLoc sig) (k n : ℕ) (hi : i < k) (hk : k < 200) : After i (tallyAt ((c : Thread nD τ), sm) k n) := fun g j hj => by
  obtain ⟨rfl, rfl⟩ := Pipeline.tallyAt_pos hj
  exact ⟨SiteBlocks.mem_L c sm hk, hi⟩
theorem After.sum {i : ℕ} {ι : Type} (s : Finset ι) (D : ι → CellTallies nD τ sig ℕ) (h : ∀ x ∈ s, After i (D x)) : After i (∑ x ∈ s, D x) := by
  classical
  induction s using Finset.induction_on with
  | empty => rw [Finset.sum_empty]; exact After.zero i
  | insert a s ha ih =>
    rw [Finset.sum_insert ha]
    exact (h a (Finset.mem_insert_self a s)).add (ih fun x hx => h x (Finset.mem_insert_of_mem hx))
theorem After.mono {i j : ℕ} (hij : i ≤ j) {D : CellTallies nD τ sig ℕ} (h : After j D) : After i D := fun g k hk => ⟨(h g k hk).1, lt_of_le_of_lt hij (h g k hk).2⟩

theorem After.mayWait {i : ℕ} {D : CellTallies nD τ sig ℕ} (h : After i D) (hi : i < 200) (c : Dev nD) (sm : SemLoc sig) :
    (levAts Lx lvx : sProp 𝕄) ⊢ MayWait (c : Thread nD τ) sm i D := SiteBlocks.mayWait_of hi c sm D h

/-- What device `c` owes its right neighbour in hop `k`, -/
def rDue (q : Fin 2) (c : Dev nD) (k : ℕ) : CellTallies nD τ sig ℕ := tallyAt (recvCell q (k + 1) (rgt c)) (ixR q k) Nc
/-- its left neighbour in hop `k`, -/
def cDue (q : Fin 2) (c : Dev nD) (k : ℕ) : CellTallies nD τ sig ℕ := tallyAt (creditCell q (lft c)) (ixC q k) 1
/-- and both from hop `h` on. -/
def due (q : Fin 2) (h : ℕ) (c : Dev nD) : CellTallies nD τ sig ℕ := ∑ k ∈ Finset.Ico h 31, rDue q c k + ∑ k ∈ Finset.Ico h 30, cDue q c k
/-- What it owes its left neighbour at entry. -/
def bDue (c : Dev nD) : CellTallies nD τ sig ℕ := tallyAt (barCell (lft c)) 1 1

theorem after_due (q : Fin 2) (h h' i : ℕ) (c : Dev nD) (hR : i < ixR q h) (hC : i < ixC q h') :
    After i (∑ k ∈ Finset.Ico h 31, rDue q c k + ∑ k ∈ Finset.Ico h' 30, cDue q c k) := by
  have := q.isLt
  refine (After.sum _ _ fun k hk => ?_).add (After.sum _ _ fun k hk => ?_)
  · have := Finset.mem_Ico.mp hk
    unfold ixR at hR
    exact After.tally _ _ _ _ (by unfold ixR; omega) (by unfold ixR; omega)
  · have := Finset.mem_Ico.mp hk
    unfold ixC at hC
    exact After.tally _ _ _ _ (by unfold ixC; omega) (by unfold ixC; omega)

/-! ### What a device holds -/

section Hold

variable (C : Fin 2 → ℕ → Dev nD → Vec F S1x64x2048 .bf16)

/-- What any device may consult: the invariants of all cells, and the levels. -/
def records (S : Finset (GSem nD τ sig)) (κ : GSem nD τ sig → ℕ) : sProp 𝕄 :=
  iprop((bigSep S fun g => cellInv ER (talkRd C) (κ g) g) ∗ levAts Lx lvx)

instance records_persistent (S : Finset (GSem nD τ sig)) (κ : GSem nD τ sig → ℕ) : BI.Persistent (records C S κ) := by unfold records; infer_instance

theorem records_inv {S : Finset (GSem nD τ sig)} {κ : GSem nD τ sig → ℕ} {g : GSem nD τ sig} (hg : g ∈ S) :
    (records C S κ : sProp 𝕄) ⊢ cellInv ER (talkRd C) (κ g) g := by
  unfold records
  iintro ⟨H, -⟩
  iapply (show (bigSep S fun g => (cellInv ER (talkRd C) (κ g) g : sProp 𝕄)) ⊢ cellInv ER (talkRd C) (κ g) g from bigSep_elim hg)
  iexact H
theorem records_lev {S : Finset (GSem nD τ sig)} {κ : GSem nD τ sig → ℕ} : (records C S κ : sProp 𝕄) ⊢ levAts Lx lvx := by
  unfold records
  iintro ⟨-, H⟩; iexact H

theorem records_wait {S : Finset (GSem nD τ sig)} (κ : GSem nD τ sig → ℕ) (c : Dev nD) (sm : SemLoc sig) {i : ℕ} {D : CellTallies nD τ sig ℕ}
    (hD : After i D) (hi : i < 200) : (records C S κ : sProp 𝕄) ⊢ MayWait (c : Thread nD τ) sm i D := by
  unfold records
  iintro ⟨-, H⟩
  have hw := After.mayWait (F := F) hD hi c sm
  iapply hw
  iexact H

/-- Device `c` owes `O`. -/
def owesAny (c : Dev nD) (O : CellTallies nD τ sig ℕ) : sProp 𝕄 := iprop(∃ W, owes (c : Thread nD τ) O W)

/-- A device's place on one of its own cells. -/
def place (g : GSem nD τ sig) (r : ℕ) : sProp 𝕄 := iprop(atPos ER g r ∅ 0 ∗ reached ER g r)

/-- What hop `k` spends: the rights to the two payments of its copy, and the claim to the arrival; -/
def hopR (q : Fin 2) (c : Dev nD) (k : ℕ) : sProp 𝕄 :=
  iprop(dutyTok ER (sendCell q k c) (k / 2) () ∗ dutyTok ER (recvCell q (k + 1) (rgt c)) (k / 2) () ∗ cred (tallyAt (recvCell q (k + 1) c) (ixR q k) Nc))
/-- the right to the credit it gives, and the claim to the one it gets. -/
def hopC (q : Fin 2) (c : Dev nD) (k : ℕ) : sProp 𝕄 :=
  iprop(dutyTok ER (creditCell q (lft c)) k () ∗ cred (tallyAt (creditCell q c) (ixC q k) 1))

/-- The same from hop `h` on. -/
def purse (q : Fin 2) (h : ℕ) (c : Dev nD) : sProp 𝕄 :=
  iprop(bigSep (Finset.Ico h 31) (hopR q c) ∗ bigSep (Finset.Ico h 30) (hopC q c))

/-- The device's places before hop `h` of phase `q`. -/
def places (q : Fin 2) (h : ℕ) (c : Dev nD) : sProp 𝕄 :=
  iprop((place (sendCell q h c) (h / 2) ∗ place (sendCell q (h + 1) c) ((h + 1) / 2))
    ∗ (place (recvCell q (h + 1) c) (h / 2) ∗ place (recvCell q h c) ((h + 1) / 2)) ∗ place (creditCell q c) h)

/-- The right neighbour's slot that hop `h` fills. -/
def target (q : Fin 2) (h : ℕ) (c : Dev nD) : sProp 𝕄 :=
  iprop(slotAny q (h + 1) (rgt c) ∗ reached ER (recvCell q (h + 1) (rgt c)) (h / 2))

end Hold

end Cert.Proof

end
-- ==== Proof.Steps.lean ====
/-
  One operation of the exchange at a time: sending a slot on, waiting for the copy to have been read, waiting for an
  arrival, giving a credit, waiting for one.
-/
module

public import proofs.«01_k».proof.Proof.Protocol

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- What a program runs to. -/
abbrev Post (F : FTy → Type) := PUnit.{1} → sProp (MT nD τ sig ℕ (Elt F) ℕ UU ℕ)

/-- A program of device `c` runs to `Kt`. -/
abbrev runs (c : Dev nD) (p : Pg F) (Kt : Post F) : sProp 𝕄 :=
  wp frame (wpE (defs₀ (F := F)) 𝒱₀ c none) Set.univ p Kt

variable (C : Fin 2 → ℕ → Dev nD → Vec F S1x64x2048 .bf16)
variable {S : Finset (GSem nD τ sig)} (hS : ∀ (c : Dev nD) (sm : SemLoc sig), kind sm ≠ none → ((c : Thread nD τ), sm) ∈ S)
variable (κ : GSem nD τ sig → ℕ) (c : Dev nD) (q : Fin 2) (Kt : Post F) (k : Pg F)

include hS

theorem inv_send (c : Dev nD) (h : ℕ) : (records C S κ : sProp 𝕄) ⊢ cellInv ER (talkRd C) (κ (sendCell q h c)) (sendCell q h c) :=
  records_inv C (hS c _ (by rw [kind_send]; exact Option.some_ne_none _))
theorem inv_recv (c : Dev nD) (h : ℕ) : (records C S κ : sProp 𝕄) ⊢ cellInv ER (talkRd C) (κ (recvCell q h c)) (recvCell q h c) :=
  records_inv C (hS c _ (by rw [kind_recv]; exact Option.some_ne_none _))
theorem inv_credit (c : Dev nD) : (records C S κ : sProp 𝕄) ⊢ cellInv ER (talkRd C) (κ (creditCell q c)) (creditCell q c) :=
  records_inv C (hS c _ (by rw [kind_credit]; exact Option.some_ne_none _))
theorem inv_bar (c : Dev nD) : (records C S κ : sProp 𝕄) ⊢ cellInv ER (talkRd C) (κ (barCell c)) (barCell c) :=
  records_inv C (hS c _ (by rw [kind_bar]; exact Option.some_ne_none _))

/-- Sending slot `h` on. -/
theorem step_send (h : ℕ) (hh : h < 31) (D : CellTallies nD τ sig ℕ) :
    iprop(records C S κ ∗ slotAt q h c (C q h c) ∗ target q h c ∗ reached ER (sendCell q h c) (h / 2) ∗ reached ER (creditCell q c) h
        ∗ dutyTok ER (sendCell q h c) (h / 2) () ∗ dutyTok ER (recvCell q (h + 1) (rgt c)) (h / 2) () ∗ owesAny c (D + rDue q c h))
      ⊢ iprop(((cred (tallyAt (sendCell q h c) 0 Nc) ∗ owesAny c D) -∗ runs c k Kt)
        -∗ runs c (sendP (sbuf q) (sbuf_whole q) (ssem q) (rsem q) (rgt c) h k) Kt) := by
  unfold sendP target owesAny slotAt slotAny
  iintro ⟨#HR, ⟨%fs, %hfs, Hs⟩, ⟨⟨%fd, Hd⟩, #HrV⟩, #HrS, #HrC, HtS, HtV, ⟨%W, HO⟩⟩ Hk
  iapply (Rounds.wp_send_pointsTo_with 𝒱₀ ER (talkRd C) (c : Thread nD τ) none (c' := (rgt c : Thread nD τ))
      (src := slotM (sbuf q) h) (dst := slotM (sbuf q) (h + 1)) (sS := .dma (semM (ssem q) h)) (sem := .dma (semM (rsem q) (h + 1)))
      (q := fullShare) (fs := fs) (fd := fd) (F := reached ER (creditCell q c) h)
      (κ₁ := κ (sendCell q h c)) (κ₂ := κ (recvCell q (h + 1) (rgt c))) (r₁ := h / 2) (r₂ := h / 2) (d₁ := ()) (d₂ := ())
      (duties_at C c _ _ (lt_send q h hh)) (duties_at C (rgt c) _ _ (lt_recv q h hh)) (ixR q h) 0 Nc (credit_eq q (h + 1))
      (units_send q h) (units_recv q (h + 1)) D rfl (W := W)
      (by
        show _ ⊢ pay C c (kind (.dma (semM (ssem q) h))) (h / 2)
        rw [pay_send, slotSet_slotM]
        unfold slotAny slotPts
        iintro H; iexists fs; iexact H)
      (by
        show _ ⊢ pay C (rgt c) (kind (.dma (semM (rsem q) (h + 1)))) (h / 2)
        rw [pay_recv, slotSet_slotM]
        unfold recvPay
        rw [lft_rgt]
        iintro ⟨H, #Hc⟩
        isplitl [H]
        · unfold slotAt
          iexists _
          isplitr
          · ipureintro
            exact (slotRd_copy q h (h + 1) fd fs).trans hfs
          · unfold slotPts; iexact H
        · iexact Hc)) $$ [Hs Hd HtS HtV HO]
  · isplitr; · iapply (inv_send C hS κ q c h); iexact HR
    isplitr; · iapply (inv_recv C hS κ q (rgt c) (h + 1)); iexact HR
    isplitl [Hs]; · rw [slotSet_slotM]; unfold slotPts; iexact Hs
    isplitl [Hd]
    · isplitl [Hd]; · rw [slotSet_slotM]; unfold slotPts; iexact Hd
      iexact HrC
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-- Waiting until the copy out of slot `h` has been read. -/
theorem step_waitSend (h : ℕ) (hh : h < 31) (D : CellTallies nD τ sig ℕ) (hD : After 0 D) :
    iprop(records C S κ ∗ cred (tallyAt (sendCell q h c) 0 Nc) ∗ place (sendCell q h c) (h / 2) ∗ owesAny c D)
      ⊢ iprop(((slotAny q h c ∗ place (sendCell q h c) (h / 2 + 1) ∗ owesAny c D) -∗ runs c k Kt)
        -∗ runs c (waitSendP (sbuf q) (sbuf_whole q) (ssem q) h k) Kt) := by
  unfold waitSendP owesAny place
  iintro ⟨#HR, Hc, ⟨Hat, -⟩, ⟨%W, HO⟩⟩ Hk
  iapply (Rounds.wp_wait_rest_token 𝒱₀ ER (talkRd C) (c : Thread nD τ) none (κ := κ (sendCell q h c))
      (wpE_waitDma2_eq 𝒱₀ (c : Thread nD τ) none Set.univ) (Set.mem_univ _) 0 (O := D) (W := W) (R := h / 2) (m := 0) (T := ∅)
      (by rw [expect_at C c _ _ (lt_send q h hh), units_send, Nat.zero_add]; exact credit_eq q h)) $$ [Hc HO Hat]
  · isplitr; · iapply (inv_send C hS κ q c h); iexact HR
    isplitl [Hc]
    · iapply (Entails.of_eq (congrArg (fun n => (cred (tallyAt (sendCell q h c) 0 n) : sProp 𝕄)) (credit_eq q h).symm)) $$ Hc
    isplitl [HO]; · iexact HO
    isplitr; · iapply (records_wait C κ c _ hD (by decide)); iexact HR
    iexact Hat
  iintro ⟨HO, Hat, #Hr, Hpay⟩
  ihave Hp := (Entails.of_eq ((rest_at C c _ _ (lt_send q h hh)).trans (pay_send C q h c))) $$ Hpay
  iapply Hk
  isplitl [Hp]; · iexact Hp
  isplitl [Hat]
  · isplitl [Hat]; · iexact Hat
    iexact Hr
  iexists _; iexact HO

/-- Waiting until the copy into slot `h + 1` has landed. -/
theorem step_waitRecv (h : ℕ) (hh : h < 31) (D : CellTallies nD τ sig ℕ) (hD : After (ixR q h) D) :
    iprop(records C S κ ∗ cred (tallyAt (recvCell q (h + 1) c) (ixR q h) Nc) ∗ place (recvCell q (h + 1) c) (h / 2) ∗ owesAny c D)
      ⊢ iprop(((slotAt q (h + 1) c (C q h (lft c)) ∗ reached ER (creditCell q (lft c)) h ∗ place (recvCell q (h + 1) c) (h / 2 + 1) ∗ owesAny c D) -∗ runs c k Kt)
        -∗ runs c (waitRecvP (sbuf q) (sbuf_whole q) (rsem q) h k) Kt) := by
  unfold waitRecvP owesAny place
  iintro ⟨#HR, Hc, ⟨Hat, -⟩, ⟨%W, HO⟩⟩ Hk
  iapply (Rounds.wp_wait_rest_token 𝒱₀ ER (talkRd C) (c : Thread nD τ) none (κ := κ (recvCell q (h + 1) c))
      (wpE_waitDma2_eq 𝒱₀ (c : Thread nD τ) none Set.univ) (Set.mem_univ _) (ixR q h) (O := D) (W := W) (R := h / 2) (m := 0) (T := ∅)
      (by rw [expect_at C c _ _ (lt_recv q h hh), units_recv, Nat.zero_add]; exact credit_eq q (h + 1))) $$ [Hc HO Hat]
  · isplitr; · iapply (inv_recv C hS κ q c (h + 1)); iexact HR
    isplitl [Hc]
    · iapply (Entails.of_eq (congrArg (fun n => (cred (tallyAt (recvCell q (h + 1) c) (ixR q h) n) : sProp 𝕄)) (credit_eq q (h + 1)).symm)) $$ Hc
    isplitl [HO]; · iexact HO
    isplitr
    · iapply (records_wait C κ c _ hD (by have := q.isLt; unfold ixR; omega)); iexact HR
    iexact Hat
  iintro ⟨HO, Hat, #Hr, Hpay⟩
  ihave Hp := (Entails.of_eq ((rest_at C c _ _ (lt_recv q h hh)).trans (pay_recv C q h c))) $$ Hpay
  unfold recvPay
  icases Hp with ⟨Hsl, #Hcr⟩
  iapply Hk
  isplitl [Hsl]; · iexact Hsl
  isplitr; · iexact Hcr
  isplitl [Hat]
  · isplitl [Hat]; · iexact Hat
    iexact Hr
  iexists _; iexact HO

/-- Telling the left neighbour that slot `h` is free. -/
theorem step_credit (h : ℕ) (hh : h < 30) (D : CellTallies nD τ sig ℕ) :
    iprop(records C S κ ∗ dutyTok ER (creditCell q (lft c)) h () ∗ slotAny q h c ∗ reached ER (recvCell q h c) ((h + 1) / 2)
        ∗ reached ER (creditCell q (lft c)) h ∗ owesAny c (D + cDue q c h))
      ⊢ iprop((owesAny c D -∗ runs c k Kt) -∗ runs c (.op (.semSignal (Dev.tc (lft c)) (csem q).sem (1#32).toInt) fun _ => k) Kt) := by
  unfold owesAny
  iintro ⟨#HR, Htok, Hs, #HrV, #HrC, ⟨%W, HO⟩⟩ Hk
  iapply (Rounds.wp_signal 𝒱₀ ER (talkRd C) (c : Thread nD τ) none (dst := (lft c : Thread nD τ)) (sem := (csem q).sem) (r := h) (d := ()) (k' := 1)
      (κ := κ (creditCell q (lft c))) (duties_at C (lft c) _ _ (lt_credit q h hh)) (units_credit q) (ixC q h) D rfl) $$ [HO Htok Hs]
  · isplitr; · iapply (inv_credit C hS κ q (lft c)); iexact HR
    isplitl [HO]; · iexact HO
    isplitl [Htok]; · iexact Htok
    isplitl [Hs]
    · iapply (Entails.of_eq (show iprop(slotAny q h c ∗ reached ER (recvCell q h c) ((h + 1) / 2)) = (talkRd C).payload ((lft c : Thread nD τ), .reg (csem q).sem) h () from by
        show _ = pay C (lft c) (kind (.reg (csem q).sem)) h
        rw [pay_credit]; unfold creditPay; rw [rgt_lft]))
      isplitl [Hs]; · iexact Hs
      iexact HrV
    · iexact HrC
  iintro HO
  iapply Hk
  iexists W; iexact HO

/-- Waiting until the right neighbour's next slot is free. -/
theorem step_waitCredit (h : ℕ) (hh : h < 30) (D : CellTallies nD τ sig ℕ) (hD : After (ixC q h) D) :
    iprop(records C S κ ∗ cred (tallyAt (creditCell q c) (ixC q h) 1) ∗ place (creditCell q c) h ∗ owesAny c D)
      ⊢ iprop(((target q (h + 1) c ∗ place (creditCell q c) (h + 1) ∗ owesAny c D) -∗ runs c k Kt)
        -∗ runs c (.op (.semWait (csem q).sem (1#32).toInt) fun _ => k) Kt) := by
  unfold owesAny place
  iintro ⟨#HR, Hc, ⟨Hat, -⟩, ⟨%W, HO⟩⟩ Hk
  iapply (Rounds.wp_wait_rest_token 𝒱₀ ER (talkRd C) (c : Thread nD τ) none (κ := κ (creditCell q c))
      (wpE_semWait_eq 𝒱₀ (c : Thread nD τ) none Set.univ) (Set.mem_univ _) (ixC q h) (k' := 1) (O := D) (W := W) (R := h) (m := 0) (T := ∅)
      (by rw [expect_at C c _ _ (lt_credit q h hh), units_credit])) $$ [Hc HO Hat]
  · isplitr; · iapply (inv_credit C hS κ q c); iexact HR
    isplitl [Hc]; · iexact Hc
    isplitl [HO]; · iexact HO
    isplitr
    · iapply (records_wait C κ c _ hD (by have := q.isLt; unfold ixC; omega)); iexact HR
    iexact Hat
  iintro ⟨HO, Hat, #Hr, Hpay⟩
  ihave Hp := (Entails.of_eq ((rest_at C c _ _ (lt_credit q h hh)).trans (pay_credit C q h c))) $$ Hpay
  iapply Hk
  isplitl [Hp]
  · unfold creditPay target
    rw [slotAny_congr q (show (h + 1 + 1) % 2 = h % 2 by omega), recvCell_congr q (show (h + 1 + 1) % 2 = h % 2 by omega)]
    iexact Hp
  isplitl [Hat]
  · isplitl [Hat]; · iexact Hat
    iexact Hr
  iexists _; iexact HO

end Cert.Proof

end
-- ==== Proof.Contents.lean ====
/-
  What the slots and the result hold during the exchange, from the two factors each device starts with.
-/
module

public import proofs.«01_k».proof.Proof.Steps
public import Idealize.ShloMosaic.Lib.Pipeline.Value

@[expose] public section

noncomputable section

namespace Cert.Proof

open Cert.KernelIdeal Cert.KernelIdeal.Gen
open Idealize.ShloMosaic Idealize.ShloMosaic.TcCoe

variable {F : FTy → Type}

/-! ### The operands and the result where the body finds them -/

abbrev opA : Memref sig .tc .vmem S2048x1024 .bf16 := Memref.whole cc0_stg0_0
abbrev opB : Memref sig .tc .vmem S1024x2048 .bf16 := Memref.whole cc0_stg1_0
abbrev opO : Memref sig .tc .vmem S2048x2048 .bf16 := Memref.whole cc0_stg3_0

theorem opO_whole : opO.IsWhole := Memref.isWhole_whole _

/-- The position `h` steps before `p` on the ring. -/
def bk (p : Fin 32) (h : ℕ) : Fin 32 := ⟨(p.val + 31 * h) % 32, Nat.mod_lt _ (by decide)⟩

theorem rowA_inb (n : Fin 32) : ∀ a, (![64 * n.val, 0] : Fin 2 → ℕ) a + S64x1024.size a ≤ S2048x1024.size a := by
  revert n; decide
theorem rowO_inb (n : Fin 32) : ∀ a, (![64 * n.val, 0] : Fin 2 → ℕ) a + S64x2048.size a ≤ S2048x2048.size a := by
  revert n; decide

abbrev rowA (n : Fin 32) : Rect S2048x1024 := Rect.unit (s := S2048x1024) ![64 * n.val, 0] S64x1024.size (rowA_inb n)
abbrev rowO (n : Fin 32) : Rect S2048x2048 := Rect.unit (s := S2048x2048) ![64 * n.val, 0] S64x2048.size (rowO_inb n)
abbrev allR : Rect S1024x2048 := Rect.unit (s := S1024x2048) ![0, 0] S1024x2048.size inb_S1024x2048_S1024x2048_0_0

/-- The `n`-th 64 rows of the first factor. -/
def rowsA (f : opA.view.ty.Contents (Elt F)) (n : Fin 32) : Vec F S64x1024 .bf16 := (opA.access (rowA n)).read (Elt F) f
/-- The second factor. -/
def allB (f : opB.view.ty.Contents (Elt F)) : Vec F S1024x2048 .bf16 := (opB.access allR).read (Elt F) f
/-- The `n`-th 64 rows of the result. -/
def rowsO (f : opO.view.ty.Contents (Elt F)) (n : Fin 32) : Vec F S64x2048 .bf16 := (opO.access (rowO n)).read (Elt F) f

/-! ### Where the kernel's index arithmetic points -/

theorem off1_eq (p : Fin 32) : k0_off1 (BitVec.ofNat 32 p.val) = ![64 * (bk p 0).val, 0] := by revert p; decide +kernel
theorem off2_eq (p : Fin 32) (h : ℕ) (hh : h < 31) : k0_off2 (BitVec.ofNat 32 p.val) (BitVec.ofNat 32 h) = ![64 * (bk p (h + 1)).val, 0] := by
  have key : ∀ (p : Fin 32) (h : Fin 31), k0_off2 (BitVec.ofNat 32 p.val) (BitVec.ofNat 32 h.val) = ![64 * (bk p (h.val + 1)).val, 0] := by decide +kernel
  exact key p ⟨h, hh⟩
theorem off3_eq (p : Fin 32) : k0_off3 (BitVec.ofNat 32 p.val) = ![64 * (bk p 31).val, 0] := by revert p; decide +kernel
theorem off4_eq (p : Fin 32) (h : ℕ) (hh : h < 31) : k0_off4 (BitVec.ofNat 32 p.val) (BitVec.ofNat 32 h) = ![64 * (bk p (h + 32)).val, 0] := by
  have key : ∀ (p : Fin 32) (h : Fin 31), k0_off4 (BitVec.ofNat 32 p.val) (BitVec.ofNat 32 h.val) = ![64 * (bk p (h.val + 32)).val, 0] := by decide +kernel
  exact key p ⟨h, hh⟩

theorem bk_inj (p : Fin 32) {j j' : ℕ} (hj : j < 32) (hj' : j' < 32) (hne : j ≠ j') : bk p (j + 31) ≠ bk p (j' + 31) := by
  intro e
  have e' : (p.val + 31 * (j + 31)) % 32 = (p.val + 31 * (j' + 31)) % 32 := congrArg Fin.val e
  omega

/-! ### What the slots hold -/

section

variable [FloatOps F]
variable (A : Dev nD → opA.view.ty.Contents (Elt F)) (B : Dev nD → opB.view.ty.Contents (Elt F))

/-- Slot contents before hop `h` of the reduce-scatter: a running sum of 64-row products. -/
def rsC : ℕ → Dev nD → Vec F S1x64x2048 .bf16
  | 0, c => k0_pay2 (rowsA (A c) (bk (pos c) 0)) (allB (B c))
  | h + 1, c => k0_pay4 (k0_pay3 (rowsA (A c) (bk (pos c) (h + 1))) (allB (B c))) (rsC h (lft c))

/-- The rows of the result a device computes. -/
def own (c : Dev nD) : Vec F S64x2048 .bf16 := k0_pay64 (k0_pay63 (rowsA (A c) (bk (pos c) 31)) (allB (B c))) (rsC A B 30 (lft c))

/-- Slot contents before hop `h` of the all-gather: the rows computed `h` steps to the left. -/
def agC : ℕ → Dev nD → Vec F S1x64x2048 .bf16
  | 0, c => k0_pay65 (own A B c)
  | h + 1, c => agC h (lft c)

def cont : Fin 2 → ℕ → Dev nD → Vec F S1x64x2048 .bf16
  | 0 => rsC A B
  | 1 => agC A B

/-- The first `n` pieces of the result are in place. -/
def Got (c : Dev nD) (n : ℕ) (f : opO.view.ty.Contents (Elt F)) : Prop :=
  ∀ j < n, rowsO f (bk (pos c) (j + 31)) = k0_pay1 (agC A B j c)

theorem pay1_pay65 (v : Vec F S64x2048 .bf16) : k0_pay1 (k0_pay65 v) = v := shapeCast_shapeCast v _ _

theorem rowO_disjoint {n n' : Fin 32} (h : n ≠ n') : Disjoint (opO.access (rowO n)).set (opO.access (rowO n')).set := by
  rw [Finset.disjoint_left]
  intro i hi hi'
  obtain ⟨x, -, hx⟩ := Finset.mem_map.mp hi
  obtain ⟨y, -, hy⟩ := Finset.mem_map.mp hi'
  have e : (rowO n).emb x = (rowO n').emb y := opO.view.emb.injective (hx.trans hy.symm)
  have e0 : 64 * n.val + 1 * (x 0).val = 64 * n'.val + 1 * (y 0).val := congrArg (fun i => (i 0).val) e
  have hx0 : (x 0).val < 64 := (x 0).isLt
  have hy0 : (y 0).val < 64 := (y 0).isLt
  exact h (Fin.ext (by omega))

/-- 64 rows put into the result. -/
def putO (n : Fin 32) (f : opO.view.ty.Contents (Elt F)) (v : Vec F S64x2048 .bf16) : opO.view.ty.Contents (Elt F) :=
  View.write (Elt F) (opO.access (rowO n)) (show (opO.access (rowO n)).ty.Contents (Elt F) from f) v Finset.univ

theorem rowsO_put (n : Fin 32) (f : opO.view.ty.Contents (Elt F)) (v : Vec F S64x2048 .bf16) : rowsO (putO n f v) n = v :=
  View.read_write_univ (v := opO.access (rowO n)) f v

theorem rowsO_put_ne {n n' : Fin 32} (h : n ≠ n') (f : opO.view.ty.Contents (Elt F)) (v : Vec F S64x2048 .bf16) : rowsO (putO n' f v) n = rowsO f n :=
  View.read_slice_write_slice_of_disjoint (v := opO.view) (rowO n) (rowO n') f v Finset.univ (rowO_disjoint h)

theorem Got.step {c : Dev nD} {n : ℕ} (hn : n < 32) {f : opO.view.ty.Contents (Elt F)} (h : Got A B c n f) {v : Vec F S64x2048 .bf16}
    (hv : v = k0_pay1 (agC A B n c)) : Got A B c (n + 1) (putO (bk (pos c) (n + 31)) f v) := by
  intro j hj
  by_cases e : j = n
  · subst e
    rw [rowsO_put]; exact hv
  · rw [← h j (by omega), rowsO_put_ne (bk_inj (pos c) (by omega) hn e)]

end

end Cert.Proof

end
-- ==== Proof.Local.lean ====
/-
  The operations of a device on its own memory, and the handshake at entry.
-/
module

public import proofs.«01_k».proof.Proof.Contents

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig ℕ (Elt F) ℕ UU ℕ

/-- The two factors as device `c` holds them. -/
def factors (c : Dev nD) (a : opA.view.ty.Contents (Elt F)) (b : opB.view.ty.Contents (Elt F)) : sProp 𝕄 :=
  iprop((opA.view.loc (c : Thread nD τ) ↦{fullShare} a) ∗ (opB.view.loc (c : Thread nD τ) ↦{fullShare} b))

/-- The result's buffer of device `c`. -/
def outPts (c : Dev nD) (f : opO.view.ty.Contents (Elt F)) : sProp 𝕄 := opO.view.loc (c : Thread nD τ) ↦{fullShare} f

variable [FloatOps F]

section

variable (c : Dev nD) (q : Fin 2) (Kt : Post F)

theorem step_loadSlot (h : ℕ) (X : Vec F S1x64x2048 .bf16) (k : Vec F S1x64x2048 .bf16 → Pg F) :
    (slotAt q h c X) ⊢ iprop((slotAt q h c X -∗ runs c (k X) Kt) -∗ runs c (loadSlotP (sbuf q) h k) Kt) := by
  unfold loadSlotP slotAt slotPts
  iintro ⟨%f, %hf, Hs⟩ Hk
  iapply (wp_load_rect (defs := defs₀ (F := F)) 𝒱₀ (c : Thread nD τ) none Set.univ (m := sbuf q) (r := slotR h) (S := slotSet q h) (f := f) (Finset.Subset.refl _)) $$ Hs
  iintro Hs
  iapply (Entails.of_eq (congrArg (fun x => runs c (k x) Kt) (show X = ((sbuf q).access (slotR h)).read (Elt F) f from hf.symm)))
  iapply Hk
  iexists f
  isplitr
  · ipureintro; exact hf
  · iexact Hs

theorem step_loadAny (h : ℕ) (k : Vec F S1x64x2048 .bf16 → Pg F) :
    (slotAny q h c) ⊢ iprop((∀ X, slotAny q h c -∗ runs c (k X) Kt) -∗ runs c (loadSlotP (sbuf q) h k) Kt) := by
  unfold loadSlotP slotAny slotPts
  iintro ⟨%f, Hs⟩ Hk
  iapply (wp_load_rect (defs := defs₀ (F := F)) 𝒱₀ (c : Thread nD τ) none Set.univ (m := sbuf q) (r := slotR h) (S := slotSet q h) (f := f) (Finset.Subset.refl _)) $$ Hs
  iintro Hs
  iapply Hk
  iexists f
  iexact Hs

theorem step_storeSlot (h : ℕ) (X : Vec F S1x64x2048 .bf16) (k : Pg F) :
    (slotAny q h c) ⊢ iprop((slotAt q h c X -∗ runs c k Kt) -∗ runs c (storeSlotP (sbuf q) (sbuf_whole q) h X k) Kt) := by
  unfold storeSlotP slotAny slotAt slotPts
  iintro ⟨%f, Hs⟩ Hk
  iapply (wp_store (defs := defs₀ (F := F)) 𝒱₀ (c : Thread nD τ) none Set.univ (m := sbuf q) (r := slotR h) (S := slotSet q h) (f := f) (Finset.Subset.refl _)) $$ Hs
  iintro Hs
  iapply Hk
  iexists _
  isplitr
  · ipureintro
    exact View.read_write_univ (v := (sbuf q).access (slotR h)) f X
  · iexact Hs

theorem step_factors (a : opA.view.ty.Contents (Elt F)) (b : opB.view.ty.Contents (Elt F)) (n : Fin 32) (off : Fin 2 → ℕ)
    (hoff : ∀ a, off a + S64x1024.size a ≤ S2048x1024.size a) (e : off = ![64 * n.val, 0])
    (k : Vec F S64x1024 .bf16 → Vec F S1024x2048 .bf16 → Pg F) :
    (factors c a b) ⊢ iprop((factors c a b -∗ runs c (k (rowsA a n) (allB b)) Kt) -∗ runs c (loadFactorsP opA opB off hoff k) Kt) := by
  subst e
  unfold loadFactorsP factors
  iintro ⟨Ha, Hb⟩ Hk
  iapply (wp_load_rect (defs := defs₀ (F := F)) 𝒱₀ (c : Thread nD τ) none Set.univ (m := opA) (r := rowA n) (S := Finset.univ) (f := a) (Finset.subset_univ _)) $$ Ha
  iintro Ha
  iapply (wp_load_rect (defs := defs₀ (F := F)) 𝒱₀ (c : Thread nD τ) none Set.univ (m := opB) (r := allR) (S := Finset.univ) (f := b) (Finset.subset_univ _)) $$ Hb
  iintro Hb
  iapply Hk
  isplitl [Ha] <;> iassumption

theorem step_put (f : opO.view.ty.Contents (Elt F)) (n : Fin 32) (off : Fin 2 → ℕ)
    (hoff : ∀ a, off a + S64x2048.size a ≤ S2048x2048.size a) (hp) (e : off = ![64 * n.val, 0])
    (v : Vec F S64x2048 .bf16) (k : Pg F) :
    (outPts c f) ⊢ iprop((outPts c (putO n f v) -∗ runs c k Kt) -∗ runs c (putRowsP opO opO_whole off hoff hp v k) Kt) := by
  subst e
  unfold putRowsP outPts
  iintro Ho Hk
  iapply (wp_load_rect (defs := defs₀ (F := F)) 𝒱₀ (c : Thread nD τ) none Set.univ (m := opO) (r := rowO n) (S := Finset.univ) (f := f) (Finset.subset_univ _)) $$ Ho
  iintro Ho
  iapply (wp_store (defs := defs₀ (F := F)) 𝒱₀ (c : Thread nD τ) none Set.univ (m := opO) (r := rowO n) (S := Finset.univ) (f := f) (Finset.subset_univ _)) $$ Ho
  iintro Ho
  iapply Hk
  iexact Ho

end

variable (C : Fin 2 → ℕ → Dev nD → Vec F S1x64x2048 .bf16)
variable {S : Finset (GSem nD τ sig)} (hS : ∀ (c : Dev nD) (sm : SemLoc sig), kind sm ≠ none → ((c : Thread nD τ), sm) ∈ S)
variable (κ : GSem nD τ sig → ℕ) (c : Dev nD) (Kt : Post F) (k : Pg F)

include hS

/-- Letting the left neighbour begin: it is handed the own slots it will fill first. -/
theorem step_enter (D : CellTallies nD τ sig ℕ) :
    iprop(records C S κ ∗ dutyTok ER (barCell (lft c)) 0 () ∗ reached ER (barCell (lft c)) 0
        ∗ ((slotAny 0 1 c ∗ reached ER (recvCell 0 1 c) 0) ∗ (slotAny 1 1 c ∗ reached ER (recvCell 1 1 c) 0)) ∗ owesAny c (D + bDue c))
      ⊢ iprop((owesAny c D -∗ runs c k Kt) -∗ runs c (.op (.semSignal (Dev.tc (lft c)) bsem (1#32).toInt) fun _ => k) Kt) := by
  unfold owesAny
  iintro ⟨#HR, Htok, #Hr, Hp, ⟨%W, HO⟩⟩ Hk
  iapply (Rounds.wp_signal 𝒱₀ ER (talkRd C) (c : Thread nD τ) none (dst := (lft c : Thread nD τ)) (sem := bsem) (r := 0) (d := ()) (k' := 1)
      (κ := κ (barCell (lft c))) (duties_at C (lft c) _ _ lt_bar) units_bar 1 D rfl) $$ [HO Htok Hp]
  · isplitr; · iapply (inv_bar C hS κ (lft c)); iexact HR
    isplitl [HO]; · iexact HO
    isplitl [Htok]; · iexact Htok
    isplitl [Hp]
    · iapply (Entails.of_eq (show iprop((slotAny 0 1 c ∗ reached ER (recvCell 0 1 c) 0) ∗ (slotAny 1 1 c ∗ reached ER (recvCell 1 1 c) 0))
          = (talkRd C).payload ((lft c : Thread nD τ), .reg bsem) 0 () from by
        show _ = pay C (lft c) (kind (.reg bsem)) 0
        rw [pay_bar]; unfold barPay; rw [rgt_lft]))
      iexact Hp
    · iexact Hr
  iintro HO
  iapply Hk
  iexists W; iexact HO

/-- Waiting until the right neighbour has begun. -/
theorem step_entered (D : CellTallies nD τ sig ℕ) (hD : After 1 D) :
    iprop(records C S κ ∗ cred (tallyAt (barCell c) 1 1) ∗ place (barCell c) 0 ∗ owesAny c D)
      ⊢ iprop(((target 0 0 c ∗ target 1 0 c ∗ place (barCell c) 1 ∗ owesAny c D) -∗ runs c k Kt)
        -∗ runs c (.op (.semWait bsem (1#32).toInt) fun _ => k) Kt) := by
  unfold owesAny place
  iintro ⟨#HR, Hc, ⟨Hat, -⟩, ⟨%W, HO⟩⟩ Hk
  iapply (Rounds.wp_wait_rest_token 𝒱₀ ER (talkRd C) (c : Thread nD τ) none (κ := κ (barCell c))
      (wpE_semWait_eq 𝒱₀ (c : Thread nD τ) none Set.univ) (Set.mem_univ _) 1 (k' := 1) (O := D) (W := W) (R := 0) (m := 0) (T := ∅)
      (by rw [expect_at C c _ _ lt_bar, units_bar])) $$ [Hc HO Hat]
  · isplitr; · iapply (inv_bar C hS κ c); iexact HR
    isplitl [Hc]; · iexact Hc
    isplitl [HO]; · iexact HO
    isplitr
    · iapply (records_wait C κ c _ hD (by decide)); iexact HR
    iexact Hat
  iintro ⟨HO, Hat, #Hr, Hpay⟩
  ihave Hp := (Entails.of_eq ((rest_at C c _ _ lt_bar).trans (pay_bar C c))) $$ Hpay
  unfold barPay
  icases Hp with ⟨H0, H1⟩
  iapply Hk
  unfold target
  isplitl [H0]; · iexact H0
  isplitl [H1]; · iexact H1
  isplitl [Hat]
  · isplitl [Hat]; · iexact Hat
    iexact Hr
  iexists _; iexact HO

end Cert.Proof

end
-- ==== Proof.Hop.lean ====
/-
  One hop of the exchange at a variable hop: the slot is sent on and comes back free, the next one arrives, the free slot is
  announced, and the next target is waited for.
-/
module

public import proofs.«01_k».proof.Proof.Local
public import Mathlib.Algebra.BigOperators.Intervals

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What is owed from arrival `i` and credit `j` of phase `q` on, and later (`D`). -/
def dueFrom (q : Fin 2) (i j : ℕ) (c : Dev nD) (D : CellTallies nD τ sig ℕ) : CellTallies nD τ sig ℕ :=
  ∑ k ∈ Finset.Ico i 31, rDue q c k + ∑ k ∈ Finset.Ico j 30, cDue q c k + D

theorem dueFrom_R (q : Fin 2) {i : ℕ} (hi : i < 31) (j : ℕ) (c : Dev nD) (D : CellTallies nD τ sig ℕ) :
    dueFrom q i j c D = dueFrom q (i + 1) j c D + rDue q c i := by
  unfold dueFrom; rw [Finset.sum_eq_sum_Ico_succ_bot hi]; abel
theorem dueFrom_C (q : Fin 2) (i : ℕ) {j : ℕ} (hj : j < 30) (c : Dev nD) (D : CellTallies nD τ sig ℕ) :
    dueFrom q i j c D = dueFrom q i (j + 1) c D + cDue q c j := by
  unfold dueFrom; rw [Finset.sum_eq_sum_Ico_succ_bot hj]; abel
theorem dueFrom_end (q : Fin 2) (c : Dev nD) (D : CellTallies nD τ sig ℕ) : dueFrom q 31 30 c D = D := by
  unfold dueFrom; rw [Finset.Ico_self, Finset.Ico_self, Finset.sum_empty, Finset.sum_empty, zero_add, zero_add]

theorem after_dueFrom (q : Fin 2) (h h' i : ℕ) (c : Dev nD) (D : CellTallies nD τ sig ℕ) (hR : i < ixR q h) (hC : i < ixC q h') (hD : After i D) :
    After i (dueFrom q h h' c D) := (after_due q h h' i c hR hC).add hD

/-- The rights and claims from arrival `i` and credit `j` on, with what is owed. -/
def tail (q : Fin 2) (i j : ℕ) (c : Dev nD) (D : CellTallies nD τ sig ℕ) : sProp 𝕄 :=
  iprop(bigSep (Finset.Ico i 31) (hopR q c) ∗ bigSep (Finset.Ico j 30) (hopC q c) ∗ owesAny c (dueFrom q i j c D))

section

variable (C : Fin 2 → ℕ → Dev nD → Vec F S1x64x2048 .bf16)

/-- A device before hop `h`. -/
def hopSt (q : Fin 2) (h : ℕ) (c : Dev nD) (D : CellTallies nD τ sig ℕ) : sProp 𝕄 :=
  iprop(slotAt q h c (C q h c) ∗ target q h c ∗ places q h c ∗ tail q h h c D)

/-- The same after its copy has been started, -/
def hopSent (q : Fin 2) (h : ℕ) (c : Dev nD) (D : CellTallies nD τ sig ℕ) : sProp 𝕄 :=
  iprop(cred (tallyAt (sendCell q h c) 0 Nc) ∗ cred (tallyAt (recvCell q (h + 1) c) (ixR q h) Nc) ∗ places q h c ∗ tail q (h + 1) h c D)

/-- a device's places once hop `h`'s copies are done, -/
def placesMid (q : Fin 2) (h : ℕ) (c : Dev nD) : sProp 𝕄 :=
  iprop((place (sendCell q (h + 1) c) ((h + 1) / 2) ∗ place (sendCell q h c) (h / 2 + 1))
    ∗ (place (recvCell q h c) ((h + 1) / 2) ∗ place (recvCell q (h + 1) c) (h / 2 + 1)) ∗ place (creditCell q c) h)

/-- after both of the hop's copies are done, -/
def hopDone (q : Fin 2) (h : ℕ) (c : Dev nD) (D : CellTallies nD τ sig ℕ) : sProp 𝕄 :=
  iprop(slotAny q h c ∗ slotAt q (h + 1) c (C q h (lft c)) ∗ reached ER (creditCell q (lft c)) h ∗ placesMid q h c ∗ tail q (h + 1) h c D)

/-- and after the free slot has been announced, less the slot with the arrival. -/
def hopFree (q : Fin 2) (h : ℕ) (c : Dev nD) (D : CellTallies nD τ sig ℕ) : sProp 𝕄 :=
  iprop(cred (tallyAt (creditCell q c) (ixC q h) 1) ∗ placesMid q h c ∗ tail q (h + 1) (h + 1) c D)

end

theorem tail_R (q : Fin 2) {i : ℕ} (hi : i < 31) (j : ℕ) (c : Dev nD) (D : CellTallies nD τ sig ℕ) :
    (tail q i j c D : sProp 𝕄) ⊢ iprop(hopR q c i ∗ bigSep (Finset.Ico (i + 1) 31) (hopR q c) ∗ bigSep (Finset.Ico j 30) (hopC q c)
      ∗ owesAny c (dueFrom q (i + 1) j c D + rDue q c i)) := by
  unfold tail
  rw [dueFrom_R q hi, bigSep_Ico_succ_bot hi]
  iintro ⟨⟨H1, H2⟩, H3, H4⟩
  isplitl [H1]; · iexact H1
  isplitl [H2]; · iexact H2
  isplitl [H3] <;> iassumption

theorem tail_C (q : Fin 2) (i : ℕ) {j : ℕ} (hj : j < 30) (c : Dev nD) (D : CellTallies nD τ sig ℕ) :
    (tail q i j c D : sProp 𝕄) ⊢ iprop(hopC q c j ∗ bigSep (Finset.Ico i 31) (hopR q c) ∗ bigSep (Finset.Ico (j + 1) 30) (hopC q c)
      ∗ owesAny c (dueFrom q i (j + 1) c D + cDue q c j)) := by
  unfold tail
  rw [dueFrom_C q i hj, bigSep_Ico_succ_bot hj]
  iintro ⟨H1, ⟨H2, H3⟩, H4⟩
  isplitl [H2]; · iexact H2
  isplitl [H1]; · iexact H1
  isplitl [H3] <;> iassumption

variable (C : Fin 2 → ℕ → Dev nD → Vec F S1x64x2048 .bf16)
variable {S : Finset (GSem nD τ sig)} (hS : ∀ (c : Dev nD) (sm : SemLoc sig), kind sm ≠ none → ((c : Thread nD τ), sm) ∈ S)
variable (κ : GSem nD τ sig → ℕ) (c : Dev nD) (q : Fin 2) (Kt : Post F) (k : Pg F)

include hS

theorem hop_send (h : ℕ) (hh : h < 31) (D : CellTallies nD τ sig ℕ) :
    iprop(records C S κ ∗ hopSt C q h c D)
      ⊢ iprop((hopSent q h c D -∗ runs c k Kt)
        -∗ runs c (sendP (sbuf q) (sbuf_whole q) (ssem q) (rsem q) (rgt c) h k) Kt) := by
  unfold hopSt places place
  iintro ⟨#HR, Hs, Ht, ⟨⟨⟨HaS, #HrS⟩, HS'⟩, HV, ⟨HaC, #HrC⟩⟩, Htl⟩ Hk
  ihave H := (tail_R q hh h c D) $$ Htl
  icases H with ⟨HhR, HR', HC', HO⟩
  unfold hopR
  icases HhR with ⟨HtS, HtV, Hcr⟩
  iapply (step_send C hS κ c q Kt k h hh (dueFrom q (h + 1) h c D)) $$ [Hs Ht HtS HtV HO]
  · isplitr; · iexact HR
    isplitl [Hs]; · iexact Hs
    isplitl [Ht]; · iexact Ht
    isplitr; · iexact HrS
    isplitr; · iexact HrC
    isplitl [HtS]; · iexact HtS
    isplitl [HtV] <;> iassumption
  iintro ⟨Hc, HO⟩
  iapply Hk
  unfold hopSent places place tail
  isplitl [Hc]; · iexact Hc
  isplitl [Hcr]; · iexact Hcr
  isplitl [HaS HS' HV HaC]
  · isplitl [HaS HS']
    · isplitl [HaS]
      · isplitl [HaS]; · iexact HaS
        iexact HrS
      · iexact HS'
    isplitl [HV]; · iexact HV
    isplitl [HaC]; · iexact HaC
    iexact HrC
  isplitl [HR']; · iexact HR'
  isplitl [HC'] <;> iassumption

theorem hop_wait (h : ℕ) (hh : h < 31) (D : CellTallies nD τ sig ℕ) (hD : After (ixR q h) D) :
    iprop(records C S κ ∗ hopSent q h c D)
      ⊢ iprop((hopDone C q h c D -∗ runs c k Kt)
        -∗ runs c (waitSendP (sbuf q) (sbuf_whole q) (ssem q) h (waitRecvP (sbuf q) (sbuf_whole q) (rsem q) h k)) Kt) := by
  have hA : After (ixR q h) (dueFrom q (h + 1) h c D) := after_dueFrom q (h + 1) h (ixR q h) c D (by unfold ixR; omega) (by unfold ixR ixC; omega) hD
  unfold hopSent places tail
  iintro ⟨#HR, HcS, HcV, ⟨⟨HS, HS'⟩, ⟨HV, HV'⟩, HC⟩, HR', HC', HO⟩ Hk
  iapply (step_waitSend C hS κ c q Kt _ h hh (dueFrom q (h + 1) h c D) (hA.mono (Nat.zero_le _))) $$ [HcS HS HO]
  · isplitr; · iexact HR
    isplitl [HcS]; · iexact HcS
    isplitl [HS] <;> iassumption
  iintro ⟨Hsl, HS, HO⟩
  iapply (step_waitRecv C hS κ c q Kt k h hh (dueFrom q (h + 1) h c D) hA) $$ [HcV HV HO]
  · isplitr; · iexact HR
    isplitl [HcV]; · iexact HcV
    isplitl [HV] <;> iassumption
  iintro ⟨Hsl', #Hcr, HV, HO⟩
  iapply Hk
  unfold hopDone placesMid tail
  isplitl [Hsl]; · iexact Hsl
  isplitl [Hsl']; · iexact Hsl'
  isplitr; · iexact Hcr
  isplitl [HS HS' HV HV' HC]
  · isplitl [HS HS']
    · isplitl [HS'] <;> iassumption
    isplitl [HV HV']
    · isplitl [HV'] <;> iassumption
    iexact HC
  isplitl [HR']; · iexact HR'
  isplitl [HC'] <;> iassumption

theorem hop_credit (h : ℕ) (hh : h < 30) (D : CellTallies nD τ sig ℕ) :
    iprop(records C S κ ∗ hopDone C q h c D)
      ⊢ iprop(((slotAt q (h + 1) c (C q h (lft c)) ∗ hopFree q h c D) -∗ runs c k Kt)
        -∗ runs c (.op (.semSignal (Dev.tc (lft c)) (csem q).sem (1#32).toInt) fun _ => k) Kt) := by
  unfold hopDone placesMid place
  iintro ⟨#HR, Hsl, Hsl', #Hcr, ⟨HS, ⟨⟨HaV, #HrV⟩, HV⟩, HC⟩, Htl⟩ Hk
  ihave H := (tail_C q (h + 1) hh c D) $$ Htl
  icases H with ⟨HhC, HR', HC', HO⟩
  unfold hopC
  icases HhC with ⟨Htok, Hclaim⟩
  iapply (step_credit C hS κ c q Kt k h hh (dueFrom q (h + 1) (h + 1) c D)) $$ [Htok Hsl HO]
  · isplitr; · iexact HR
    isplitl [Htok]; · iexact Htok
    isplitl [Hsl]; · iexact Hsl
    isplitr; · iexact HrV
    isplitr; · iexact Hcr
    iexact HO
  iintro HO
  iapply Hk
  unfold hopFree placesMid place tail
  isplitl [Hsl']; · iexact Hsl'
  isplitl [Hclaim]; · iexact Hclaim
  isplitl [HS HaV HV HC]
  · isplitl [HS]; · iexact HS
    isplitl [HaV HV]
    · isplitl [HaV]
      · isplitl [HaV]; · iexact HaV
        iexact HrV
      · iexact HV
    iexact HC
  isplitl [HR']; · iexact HR'
  isplitl [HC']; · iexact HC'
  iexact HO

theorem hop_next (h : ℕ) (hh : h < 30) (D : CellTallies nD τ sig ℕ) (hD : After (ixC q h) D) :
    iprop(records C S κ ∗ slotAt q (h + 1) c (C q (h + 1) c) ∗ hopFree q h c D)
      ⊢ iprop((hopSt C q (h + 1) c D -∗ runs c k Kt)
        -∗ runs c (.op (.semWait (csem q).sem (1#32).toInt) fun _ => k) Kt) := by
  have hA : After (ixC q h) (dueFrom q (h + 1) (h + 1) c D) :=
    after_dueFrom q (h + 1) (h + 1) (ixC q h) c D (by unfold ixR ixC; omega) (by unfold ixC; omega) hD
  unfold hopFree placesMid tail
  iintro ⟨#HR, Hsl, Hclaim, ⟨HS, HV, HC⟩, HR', HC', HO⟩ Hk
  iapply (step_waitCredit C hS κ c q Kt k h hh (dueFrom q (h + 1) (h + 1) c D) hA) $$ [Hclaim HC HO]
  · isplitr; · iexact HR
    isplitl [Hclaim]; · iexact Hclaim
    isplitl [HC] <;> iassumption
  iintro ⟨Ht, HC, HO⟩
  iapply Hk
  unfold hopSt places tail
  rw [sendCell_add_two q h c, recvCell_add_two q h c, show (h + 1 + 1) / 2 = h / 2 + 1 by omega]
  isplitl [Hsl]; · iexact Hsl
  isplitl [Ht]; · iexact Ht
  isplitl [HS HV HC]
  · isplitl [HS]; · iexact HS
    isplitl [HV] <;> iassumption
  isplitl [HR']; · iexact HR'
  isplitl [HC'] <;> iassumption

end Cert.Proof

end
-- ==== Proof.Phases.lean ====
/-
  The two phases: the hops one after another, by induction.
-/
module

public import proofs.«01_k».proof.Proof.Hop

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- What both phases leave of a phase's slots and places. -/
def phaseEnd (q : Fin 2) (c : Dev nD) : sProp 𝕄 := iprop(slotAny q 30 c ∗ slotAny q 31 c ∗ placesMid q 30 c)

variable (A : Dev nD → opA.view.ty.Contents (Elt F)) (B : Dev nD → opB.view.ty.Contents (Elt F))

/-- The result's buffer with the first `n` pieces in place. -/
def outGot (c : Dev nD) (n : ℕ) : sProp 𝕄 := iprop(∃ f, ⌜Got A B c n f⌝ ∗ outPts c f)

variable {S : Finset (GSem nD τ sig)} (hS : ∀ (c : Dev nD) (sm : SemLoc sig), kind sm ≠ none → ((c : Thread nD τ), sm) ∈ S)
variable (κ : GSem nD τ sig → ℕ) (c : Dev nD) (Kt : Post F)
variable (hv0 : k0_chk2 (BitVec.ofNat 32 (pos c).val))

include hS

theorem run_rsHop (h : ℕ) (hh : h < 30) (D : CellTallies nD τ sig ℕ) (hD : After (ixC 0 30) D) (k : Pg F) :
    iprop(records (cont A B) S κ ∗ hopSt (cont A B) 0 h c D ∗ factors c (A c) (B c))
      ⊢ iprop(((hopSt (cont A B) 0 (h + 1) c D ∗ factors c (A c) (B c)) -∗ runs c k Kt)
        -∗ runs c (rsHop opA opB (sbuf 0) (sbuf_whole 0) (ssem 0) (rsem 0) (csem 0) (BitVec.ofNat 32 (pos c).val) hv0 (lft c) (rgt c) h (by omega) k) Kt) := by
  unfold rsHop
  iintro ⟨#HR, Hst, Hf⟩ Hk
  iapply (hop_send (cont A B) hS κ c 0 Kt _ h (by omega) D) $$ [Hst]
  · isplitr; · iexact HR
    iexact Hst
  iintro Hst
  iapply (step_factors c Kt (A c) (B c) (bk (pos c) (h + 1)) _ _ (off2_eq (pos c) h (by omega)) _) $$ Hf
  iintro Hf
  iapply (hop_wait (cont A B) hS κ c 0 Kt _ h (by omega) D (hD.mono (by unfold ixR ixC; omega))) $$ [Hst]
  · isplitr; · iexact HR
    iexact Hst
  iintro Hst
  iapply (hop_credit (cont A B) hS κ c 0 Kt _ h hh D) $$ [Hst]
  · isplitr; · iexact HR
    iexact Hst
  iintro ⟨Hsl, Hst⟩
  iapply (step_loadSlot c 0 Kt (h + 1) _ _) $$ Hsl
  iintro Hsl
  iapply (step_loadSlot c 0 Kt (h + 1) _ _) $$ Hsl
  iintro Hsl
  ihave Hsl := (slotAt_any 0 (h + 1) c _) $$ Hsl
  iapply (step_storeSlot c 0 Kt (h + 1) _ _) $$ Hsl
  iintro Hsl
  iapply (hop_next (cont A B) hS κ c 0 Kt k h hh D (hD.mono (by unfold ixC; omega))) $$ [Hsl Hst]
  · isplitr; · iexact HR
    isplitl [Hsl]; · iexact Hsl
    iexact Hst
  iintro Hst
  iapply Hk
  isplitl [Hst] <;> iassumption

theorem run_rsHops (D : CellTallies nD τ sig ℕ) (hD : After (ixC 0 30) D) (k : Pg F) : ∀ (n h : ℕ) (hn : h + n < 31),
    iprop(records (cont A B) S κ ∗ hopSt (cont A B) 0 h c D ∗ factors c (A c) (B c))
      ⊢ iprop(((hopSt (cont A B) 0 (h + n) c D ∗ factors c (A c) (B c)) -∗ runs c k Kt)
        -∗ runs c (rsHops opA opB (sbuf 0) (sbuf_whole 0) (ssem 0) (rsem 0) (csem 0) (BitVec.ofNat 32 (pos c).val) hv0 (lft c) (rgt c) n h hn k) Kt)
  | 0, h, hn => by
    unfold rsHops
    iintro ⟨-, H⟩ Hk
    iapply Hk
    iexact H
  | n + 1, h, hn => by
    unfold rsHops
    iintro ⟨#HR, Hst, Hf⟩ Hk
    iapply (run_rsHop A B hS κ c Kt hv0 h (by omega) D hD _) $$ [Hst Hf]
    · isplitr; · iexact HR
      isplitl [Hst] <;> iassumption
    iintro ⟨Hst, Hf⟩
    iapply (run_rsHops D hD k n (h + 1) _) $$ [Hst Hf]
    · isplitr; · iexact HR
      isplitl [Hst] <;> iassumption
    rw [show h + 1 + n = h + (n + 1) by omega]
    iexact Hk

theorem run_rsLast (D : CellTallies nD τ sig ℕ) (hD : After (ixC 0 30) D) (k : Pg F) :
    iprop(records (cont A B) S κ ∗ hopSt (cont A B) 0 30 c D ∗ factors c (A c) (B c) ∗ slotAny 1 0 c ∗ (∃ f, outPts c f))
      ⊢ iprop(((phaseEnd 0 c ∗ owesAny c D ∗ factors c (A c) (B c) ∗ slotAt 1 0 c (cont A B 1 0 c) ∗ outGot A B c 1) -∗ runs c k Kt)
        -∗ runs c (rsLast opA opB opO opO_whole (sbuf 0) (sbuf_whole 0) (sbuf 1) (sbuf_whole 1) (ssem 0) (rsem 0) (BitVec.ofNat 32 (pos c).val) hv0 (rgt c) k) Kt) := by
  unfold rsLast
  iintro ⟨#HR, Hst, Hf, Ha, ⟨%f, Ho⟩⟩ Hk
  iapply (hop_send (cont A B) hS κ c 0 Kt _ 30 (by omega) D) $$ [Hst]
  · isplitr; · iexact HR
    iexact Hst
  iintro Hst
  iapply (step_factors c Kt (A c) (B c) (bk (pos c) 31) _ _ (off2_eq (pos c) 30 (by omega)) _) $$ Hf
  iintro Hf
  iapply (hop_wait (cont A B) hS κ c 0 Kt _ 30 (by omega) D (hD.mono (by unfold ixR ixC; omega))) $$ [Hst]
  · isplitr; · iexact HR
    iexact Hst
  iintro Hst
  unfold hopDone tail
  icases Hst with ⟨Hsl, Hsl', -, Hp, -, -, HO⟩
  iapply (step_loadSlot c 0 Kt 31 _ _) $$ Hsl'
  iintro Hsl'
  iapply (step_put c Kt f (bk (pos c) 31) _ _ _ (off3_eq (pos c)) _ _) $$ Ho
  iintro Ho
  iapply (step_loadAny c 1 Kt 0 _) $$ Ha
  iintro %X Ha
  iapply (step_storeSlot c 1 Kt 0 _ k) $$ Ha
  iintro Ha
  iapply Hk
  unfold phaseEnd outGot
  isplitl [Hsl Hsl' Hp]
  · isplitl [Hsl]; · iexact Hsl
    isplitl [Hsl']
    · iapply (slotAt_any 0 31 c _); iexact Hsl'
    iexact Hp
  isplitl [HO]
  · rw [dueFrom_end 0 c D]; iexact HO
  isplitl [Hf]; · iexact Hf
  isplitl [Ha]; · iexact Ha
  iexists _
  isplitr
  rotate_left
  · iexact Ho
  ipureintro
  exact Got.step A B (c := c) (n := 0) (by omega) (f := f) (fun j hj => absurd hj (Nat.not_lt_zero j)) (pay1_pay65 (own A B c)).symm

theorem run_agHop (h : ℕ) (hh : h < 30) (k : Pg F) :
    iprop(records (cont A B) S κ ∗ hopSt (cont A B) 1 h c 0 ∗ outGot A B c (h + 1))
      ⊢ iprop(((hopSt (cont A B) 1 (h + 1) c 0 ∗ outGot A B c (h + 2)) -∗ runs c k Kt)
        -∗ runs c (agHop opO opO_whole (sbuf 1) (sbuf_whole 1) (ssem 1) (rsem 1) (csem 1) (BitVec.ofNat 32 (pos c).val) hv0 (lft c) (rgt c) h (by omega) k) Kt) := by
  unfold agHop outGot
  iintro ⟨#HR, Hst, ⟨%f, %hf, Ho⟩⟩ Hk
  iapply (hop_send (cont A B) hS κ c 1 Kt _ h (by omega) 0) $$ [Hst]
  · isplitr; · iexact HR
    iexact Hst
  iintro Hst
  iapply (hop_wait (cont A B) hS κ c 1 Kt _ h (by omega) 0 (After.zero _)) $$ [Hst]
  · isplitr; · iexact HR
    iexact Hst
  iintro Hst
  iapply (hop_credit (cont A B) hS κ c 1 Kt _ h hh 0) $$ [Hst]
  · isplitr; · iexact HR
    iexact Hst
  iintro ⟨Hsl, Hst⟩
  iapply (step_loadSlot c 1 Kt (h + 1) _ _) $$ Hsl
  iintro Hsl
  iapply (step_put c Kt f (bk (pos c) (h + 32)) _ _ _ (off4_eq (pos c) h (by omega)) _ _) $$ Ho
  iintro Ho
  iapply (hop_next (cont A B) hS κ c 1 Kt k h hh 0 (After.zero _)) $$ [Hsl Hst]
  · isplitr; · iexact HR
    isplitl [Hsl]; · iexact Hsl
    iexact Hst
  iintro Hst
  iapply Hk
  isplitl [Hst]; · iexact Hst
  iexists _
  isplitr
  rotate_left
  · iexact Ho
  ipureintro
  exact Got.step A B (c := c) (n := h + 1) (by omega) hf rfl

theorem run_agHops (k : Pg F) : ∀ (n h : ℕ) (hn : h + n < 31),
    iprop(records (cont A B) S κ ∗ hopSt (cont A B) 1 h c 0 ∗ outGot A B c (h + 1))
      ⊢ iprop(((hopSt (cont A B) 1 (h + n) c 0 ∗ outGot A B c (h + n + 1)) -∗ runs c k Kt)
        -∗ runs c (agHops opO opO_whole (sbuf 1) (sbuf_whole 1) (ssem 1) (rsem 1) (csem 1) (BitVec.ofNat 32 (pos c).val) hv0 (lft c) (rgt c) n h hn k) Kt)
  | 0, h, hn => by
    unfold agHops
    iintro ⟨-, H⟩ Hk
    iapply Hk
    iexact H
  | n + 1, h, hn => by
    unfold agHops
    iintro ⟨#HR, Hst, Hf⟩ Hk
    iapply (run_agHop A B hS κ c Kt hv0 h (by omega) _) $$ [Hst Hf]
    · isplitr; · iexact HR
      isplitl [Hst] <;> iassumption
    iintro ⟨Hst, Hf⟩
    iapply (run_agHops k n (h + 1) _) $$ [Hst Hf]
    · isplitr; · iexact HR
      isplitl [Hst]; · iexact Hst
      iexact Hf
    rw [show h + 1 + n = h + (n + 1) by omega]
    iexact Hk

theorem run_agLast :
    iprop(records (cont A B) S κ ∗ hopSt (cont A B) 1 30 c 0 ∗ outGot A B c 31)
      ⊢ iprop(((phaseEnd 1 c ∗ owesAny c 0 ∗ outGot A B c 32) -∗ Kt ⟨⟩)
        -∗ runs c (agLast opO opO_whole (sbuf 1) (sbuf_whole 1) (ssem 1) (rsem 1) (BitVec.ofNat 32 (pos c).val) hv0 (rgt c)) Kt) := by
  unfold agLast outGot
  iintro ⟨#HR, Hst, ⟨%f, %hf, Ho⟩⟩ Hk
  iapply (hop_send (cont A B) hS κ c 1 Kt _ 30 (by omega) 0) $$ [Hst]
  · isplitr; · iexact HR
    iexact Hst
  iintro Hst
  iapply (hop_wait (cont A B) hS κ c 1 Kt _ 30 (by omega) 0 (After.zero _)) $$ [Hst]
  · isplitr; · iexact HR
    iexact Hst
  iintro Hst
  unfold hopDone tail
  icases Hst with ⟨Hsl, Hsl', -, Hp, -, -, HO⟩
  iapply (step_loadSlot c 1 Kt 31 _ _) $$ Hsl'
  iintro Hsl'
  iapply (step_put c Kt f (bk (pos c) 62) _ _ _ (off4_eq (pos c) 30 (by omega)) _ _) $$ Ho
  iintro Ho
  iapply (show (|={Set.univ}=> Kt ⟨⟩ : sProp 𝕄) ⊢ runs c (.ret ⟨⟩) Kt from Entails.of_eq (wp_ret ..).symm)
  imodintro
  iapply Hk
  unfold phaseEnd
  isplitl [Hsl Hsl' Hp]
  · isplitl [Hsl]; · iexact Hsl
    isplitl [Hsl']
    · iapply (slotAt_any 1 31 c _); iexact Hsl'
    iexact Hp
  isplitl [HO]
  · rw [dueFrom_end 1 c 0]; iexact HO
  iexists _
  isplitr
  rotate_left
  · iexact Ho
  ipureintro
  exact Got.step A B (c := c) (n := 31) (by omega) hf rfl

end Cert.Proof

end
-- ==== Proof.Words.lean ====
/-
  The three words the kernel reads: a device's position and its neighbours. With them every check the body makes holds.
-/
module

public import proofs.«01_k».proof.Proof.Ring
public import proofs.«01_k».proof.Proof.Gen.KernelIdeal

@[expose] public section

namespace Cert.Proof

open Cert.KernelIdeal
open Idealize.ShloMosaic

set_option maxRecDepth 100000 in
theorem chk1_at : ∀ d : Fin 32, k0_chk1 (BitVec.ofNat 32 d.val) := by decide +kernel
set_option maxRecDepth 100000 in
theorem chk3_at : ∀ d : Fin 32, k0_chk3 (BitVec.ofNat 32 d.val) := by decide +kernel
set_option maxRecDepth 100000 in
theorem chk2_at : ∀ p : Fin 32, k0_chk2 (BitVec.ofNat 32 p.val) := by decide +kernel

theorem dev1_at : ∀ d : Fin 32, k0_dev1 (BitVec.ofNat 32 d.val) = d.val := by decide +kernel
theorem dev2_at : ∀ d : Fin 32, k0_dev2 (BitVec.ofNat 32 d.val) = d.val := by decide +kernel

end Cert.Proof
-- ==== Proof.Body.lean ====
/-
  The whole body on device `c`: from what it holds at entry to what it leaves.
-/
module

public import proofs.«01_k».proof.Proof.Phases
public import proofs.«01_k».proof.Proof.Words

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- All a device owes at entry. -/
def due0 (c : Dev nD) : CellTallies nD τ sig ℕ := dueFrom 0 0 0 c (dueFrom 1 0 0 c 0) + bDue c

/-- A phase's slots, places, rights and claims at entry. -/
def phaseStart (q : Fin 2) (c : Dev nD) : sProp 𝕄 :=
  iprop(slotAny q 0 c ∗ slotAny q 1 c ∗ places q 0 c ∗ bigSep (Finset.Ico 0 31) (hopR q c) ∗ bigSep (Finset.Ico 0 30) (hopC q c))

/-- The handshake's place, right and claim. -/
def barStart (c : Dev nD) : sProp 𝕄 :=
  iprop(place (barCell c) 0 ∗ dutyTok ER (barCell (lft c)) 0 () ∗ reached ER (barCell (lft c)) 0 ∗ cred (tallyAt (barCell c) 1 1))

/-- The three words. -/
abbrev opW : Memref sig .tc .smem S3 .i32 := Memref.whole cc0_stg2_0

/-- The words' buffer of device `c`. -/
def wordsPts (c : Dev nD) (w : opW.view.ty.Contents (Elt F)) : sProp 𝕄 := opW.view.loc (c : Thread nD τ) ↦{fullShare} w

theorem word_inb (i : Fin 3) : ∀ a, (![i.val] : Fin 1 → ℕ) a + S1.size a ≤ S3.size a := by revert i; decide

/-- Word `i` as the body reads it. -/
def wordAt (w : opW.view.ty.Contents (Elt F)) (i : Fin 3) : BitVec 32 :=
  (opW.access (Rect.unit (s := S3) ![i.val] S1.size (word_inb i))).read (Elt F) w (Shape.Idx.first (numel1_S1.symm ▸ Nat.one_pos))

variable (A : Dev nD → opA.view.ty.Contents (Elt F)) (B : Dev nD → opB.view.ty.Contents (Elt F))
variable {S : Finset (GSem nD τ sig)} (hS : ∀ (c : Dev nD) (sm : SemLoc sig), kind sm ≠ none → ((c : Thread nD τ), sm) ∈ S)
variable (κ : GSem nD τ sig → ℕ) (c : Dev nD) (Kt : Post F)

/-- What a device holds when the body starts, less the words, -/
def start (c : Dev nD) : sProp 𝕄 :=
  iprop(factors c (A c) (B c) ∗ (∃ f, outPts c f) ∗ barStart c ∗ phaseStart 0 c ∗ phaseStart 1 c ∗ owesAny c (due0 c))
/-- and when it ends. -/
def finish (c : Dev nD) : sProp 𝕄 :=
  iprop(factors c (A c) (B c) ∗ outGot A B c 32 ∗ place (barCell c) 1 ∗ phaseEnd 0 c ∗ phaseEnd 1 c ∗ owesAny c 0)

include hS

theorem run_talk (hv0 : k0_chk2 (BitVec.ofNat 32 (pos c).val)) :
    iprop(records (cont A B) S κ ∗ start A B c)
      ⊢ iprop((finish A B c -∗ Kt ⟨⟩)
        -∗ runs c (talkP opA opB opO opO_whole (sbuf 0) (sbuf_whole 0) (sbuf 1) (sbuf_whole 1) (ssem 0) (rsem 0) (ssem 1) (rsem 1) (csem 0) (csem 1)
            (BitVec.ofNat 32 (pos c).val) hv0 (lft c) (rgt c)) Kt) := by
  have hD1 : After (ixC 0 30) (dueFrom 1 0 0 c 0) := after_dueFrom 1 0 0 _ c 0 (by decide) (by decide) (After.zero _)
  have hD0 : After 1 (dueFrom 0 0 0 c (dueFrom 1 0 0 c 0)) := after_dueFrom 0 0 0 _ c _ (by decide) (by decide) (hD1.mono (by decide))
  unfold talkP start barStart phaseStart due0 places place
  iintro ⟨#HR, Hf, Ho, ⟨HB, HtB, #HrB, HcB⟩,
    ⟨Ha0, Ha1, ⟨HS0, ⟨⟨HaV0, #HrV0⟩, HV0⟩, HC0⟩, HhR0, HhC0⟩,
    ⟨Hb0, Hb1, ⟨HS1, ⟨⟨HaV1, #HrV1⟩, HV1⟩, HC1⟩, HhR1, HhC1⟩, HO⟩ Hk
  iapply (step_enter (cont A B) hS κ c Kt _ (dueFrom 0 0 0 c (dueFrom 1 0 0 c 0))) $$ [HtB Ha1 Hb1 HO]
  · isplitr; · iexact HR
    isplitl [HtB]; · iexact HtB
    isplitr; · iexact HrB
    isplitl [Ha1 Hb1]
    · isplitl [Ha1]
      · isplitl [Ha1]; · iexact Ha1
        iexact HrV0
      · isplitl [Hb1]; · iexact Hb1
        iexact HrV1
    iexact HO
  iintro HO
  iapply (step_entered (cont A B) hS κ c Kt _ (dueFrom 0 0 0 c (dueFrom 1 0 0 c 0)) hD0) $$ [HcB HB HO]
  · isplitr; · iexact HR
    isplitl [HcB]; · iexact HcB
    isplitl [HB]; · unfold place; iexact HB
    iexact HO
  iintro ⟨Ht0, Ht1, HB, HO⟩
  iapply (step_factors c Kt (A c) (B c) (bk (pos c) 0) _ _ (off1_eq (pos c)) _) $$ Hf
  iintro Hf
  iapply (step_loadAny c 0 Kt 0 _) $$ Ha0
  iintro %X Ha0
  iapply (step_storeSlot c 0 Kt 0 _ _) $$ Ha0
  iintro Ha0
  iapply (run_rsHops A B hS κ c Kt hv0 (dueFrom 1 0 0 c 0) hD1 _ 30 0 _) $$ [Ha0 Ht0 HS0 HaV0 HV0 HC0 HhR0 HhC0 HO Hf]
  · isplitr; · iexact HR
    isplitr [Hf]
    · unfold hopSt places place tail
      isplitl [Ha0]; · iexact Ha0
      isplitl [Ht0]; · iexact Ht0
      isplitl [HS0 HaV0 HV0 HC0]
      · isplitl [HS0]; · iexact HS0
        isplitl [HaV0 HV0]
        · isplitl [HaV0]
          · isplitl [HaV0]; · iexact HaV0
            iexact HrV0
          · iexact HV0
        iexact HC0
      isplitl [HhR0]; · iexact HhR0
      isplitl [HhC0]; · iexact HhC0
      iexact HO
    · iexact Hf
  iintro ⟨Hst, Hf⟩
  iapply (run_rsLast A B hS κ c Kt hv0 (dueFrom 1 0 0 c 0) hD1 _) $$ [Hst Hf Hb0 Ho]
  · isplitr; · iexact HR
    isplitl [Hst]; · iexact Hst
    isplitl [Hf]; · iexact Hf
    isplitl [Hb0]; · iexact Hb0
    iexact Ho
  iintro ⟨He0, HO, Hf, Hb0, Ho⟩
  iapply (run_agHops A B hS κ c Kt hv0 _ 30 0 _) $$ [Hb0 Ht1 HS1 HaV1 HV1 HC1 HhR1 HhC1 HO Ho]
  · isplitr; · iexact HR
    isplitr [Ho]
    · unfold hopSt places place tail
      isplitl [Hb0]; · iexact Hb0
      isplitl [Ht1]; · iexact Ht1
      isplitl [HS1 HaV1 HV1 HC1]
      · isplitl [HS1]; · iexact HS1
        isplitl [HaV1 HV1]
        · isplitl [HaV1]
          · isplitl [HaV1]; · iexact HaV1
            iexact HrV1
          · iexact HV1
        iexact HC1
      isplitl [HhR1]; · iexact HhR1
      isplitl [HhC1]; · iexact HhC1
      iexact HO
    · iexact Ho
  iintro ⟨Hst, Ho⟩
  iapply (run_agLast A B hS κ c Kt hv0) $$ [Hst Ho]
  · isplitr; · iexact HR
    isplitl [Hst]; · iexact Hst
    iexact Ho
  iintro ⟨He1, HO, Ho⟩
  iapply Hk
  unfold finish
  isplitl [Hf]; · iexact Hf
  isplitl [Ho]; · iexact Ho
  isplitl [HB]; · iexact HB
  isplitl [He0]; · iexact He0
  isplitl [He1]; · iexact He1
  iexact HO

/-- The body, its words being the device's position and its neighbours. -/
theorem run_body (w : opW.view.ty.Contents (Elt F)) (h0 : wordAt w 0 = BitVec.ofNat 32 (pos c).val) (h1 : wordAt w 1 = BitVec.ofNat 32 (lft c).val)
    (h2 : wordAt w 2 = BitVec.ofNat 32 (rgt c).val) :
    iprop(records (cont A B) S κ ∗ wordsPts c w ∗ start A B c)
      ⊢ iprop(((wordsPts c w ∗ finish A B c) -∗ Kt ⟨⟩)
        -∗ runs c (cc0_body opA (Memref.isWhole_whole _) opB (Memref.isWhole_whole _) opW (Memref.isWhole_whole _) opO opO_whole
            (sbuf 0) (sbuf_whole 0) (sbuf 1) (sbuf_whole 1) (ssem 0) (rsem 0) (ssem 1) (rsem 1) (csem 0) (csem 1)) Kt) := by
  rw [body_eq_rolled]
  unfold rolled wordsPts
  iintro ⟨#HR, Hw, Hst⟩ Hk
  iapply (wp_smemLoadElt (defs := defs₀ (F := F)) 𝒱₀ (c : Thread nD τ) none Set.univ (m := opW) (r := Rect.unit (s := S3) ![0] S1.size inb_S3_S1_0) (S := Finset.univ) (f := w) (Finset.subset_univ _)) $$ Hw
  iintro Hw
  rw [show (opW.access (Rect.unit (s := S3) ![0] S1.size inb_S3_S1_0)).read (Elt F) w (Shape.Idx.first (numel1_S1.symm ▸ Nat.one_pos)) = BitVec.ofNat 32 (pos c).val from h0]
  iapply (wp_assume (defs := defs₀ (F := F)) 𝒱₀ (c : Thread nD τ) none Set.univ (chk2_at (pos c)))
  iapply (wp_smemLoadElt (defs := defs₀ (F := F)) 𝒱₀ (c : Thread nD τ) none Set.univ (m := opW) (r := Rect.unit (s := S3) ![1] S1.size inb_S3_S1_1) (S := Finset.univ) (f := w) (Finset.subset_univ _)) $$ Hw
  iintro Hw
  rw [show (opW.access (Rect.unit (s := S3) ![1] S1.size inb_S3_S1_1)).read (Elt F) w (Shape.Idx.first (numel1_S1.symm ▸ Nat.one_pos)) = BitVec.ofNat 32 (lft c).val from h1]
  iapply (wp_assume (defs := defs₀ (F := F)) 𝒱₀ (c : Thread nD τ) none Set.univ (chk1_at (lft c)))
  iapply (wp_smemLoadElt (defs := defs₀ (F := F)) 𝒱₀ (c : Thread nD τ) none Set.univ (m := opW) (r := Rect.unit (s := S3) ![2] S1.size inb_S3_S1_2) (S := Finset.univ) (f := w) (Finset.subset_univ _)) $$ Hw
  iintro Hw
  rw [show (opW.access (Rect.unit (s := S3) ![2] S1.size inb_S3_S1_2)).read (Elt F) w (Shape.Idx.first (numel1_S1.symm ▸ Nat.one_pos)) = BitVec.ofNat 32 (rgt c).val from h2]
  iapply (wp_assume (defs := defs₀ (F := F)) 𝒱₀ (c : Thread nD τ) none Set.univ (chk3_at (rgt c)))
  rw [show (⟨k0_dev1 (BitVec.ofNat 32 (lft c).val), k0_dev1_lt _ (chk1_at (lft c))⟩ : Dev nD) = lft c from Fin.ext (dev1_at (lft c)),
    show (⟨k0_dev2 (BitVec.ofNat 32 (rgt c).val), k0_dev2_lt _ (chk3_at (rgt c))⟩ : Dev nD) = rgt c from Fin.ext (dev2_at (rgt c))]
  iapply (run_talk A B hS κ c Kt (chk2_at (pos c))) $$ [Hst]
  · isplitr; · iexact HR
    iexact Hst
  iintro Hfin
  iapply Hk
  isplitl [Hw] <;> iassumption

end Cert.Proof

end
-- ==== Proof.Slots.lean ====
/-
  A two-slot buffer as its two slots, and a result as its 32 row blocks.
-/
module

public import proofs.«01_k».proof.Proof.Body

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig ℕ (Elt F) ℕ UU ℕ

/-! ### The slots -/

theorem slot_disjoint (q : Fin 2) : Disjoint (slotSet q 0) (slotSet q 1) := by
  rw [Finset.disjoint_left]
  intro i hi hi'
  obtain ⟨x, -, hx⟩ := Finset.mem_map.mp hi
  obtain ⟨y, -, hy⟩ := Finset.mem_map.mp hi'
  have e : (slotR 0).emb x = (slotR 1).emb y := (sbuf q).view.emb.injective (hx.trans hy.symm)
  have e0 : 0 % 2 + 1 * (x 0).val = 1 % 2 + 1 * (y 0).val := congrArg (fun i => (i 0).val) e
  have hx0 : (x 0).val < 1 := (x 0).isLt
  have hy0 : (y 0).val < 1 := (y 0).isLt
  omega

theorem slot_mem (q : Fin 2) (j : S2x64x2048.Idx) (s : ℕ) (hs : (j 0).val = s % 2) : (sbuf q).view.emb j ∈ slotSet q s := by
  refine Finset.mem_map.mpr ⟨fun a => ⟨(j a).val - (![s % 2, 0, 0] : Fin 3 → ℕ) a, ?_⟩, Finset.mem_univ _, ?_⟩
  · have h0 : (j 0).val < 2 := (j 0).isLt
    have h1 : (j 1).val < 64 := (j 1).isLt
    have h2 : (j 2).val < 2048 := (j 2).isLt
    fin_cases a
    · show (j 0).val - s % 2 < 1; omega
    · show (j 1).val - 0 < 64; omega
    · show (j 2).val - 0 < 2048; omega
  · refine congrArg (sbuf q).view.emb (funext fun a => Fin.ext ?_)
    fin_cases a
    · show s % 2 + 1 * ((j 0).val - s % 2) = (j 0).val; omega
    · show 0 + 1 * ((j 1).val - 0) = (j 1).val; omega
    · show 0 + 1 * ((j 2).val - 0) = (j 2).val; omega

theorem slot_union : ∀ q : Fin 2, slotSet q 0 ∪ slotSet q 1 = Finset.univ
  | 0 => by
    refine Finset.eq_univ_of_forall fun (i : S2x64x2048.Idx) => Finset.mem_union.mpr ?_
    have h0 : (i 0).val < 2 := (i 0).isLt
    obtain h | h : (i 0).val = 0 ∨ (i 0).val = 1 := by omega
    · exact .inl (slot_mem 0 i 0 h)
    · exact .inr (slot_mem 0 i 1 h)
  | 1 => by
    refine Finset.eq_univ_of_forall fun (i : S2x64x2048.Idx) => Finset.mem_union.mpr ?_
    have h0 : (i 0).val < 2 := (i 0).isLt
    obtain h | h : (i 0).val = 0 ∨ (i 0).val = 1 := by omega
    · exact .inl (slot_mem 1 i 0 h)
    · exact .inr (slot_mem 1 i 1 h)

/-- A phase's buffer of device `c`, whatever it holds. -/
def bufAny (q : Fin 2) (c : Dev nD) : sProp 𝕄 :=
  iprop(∃ f : Buf (Elt F) ((sbuf q).view.loc (c : Thread nD τ)), (sbuf q).view.loc (c : Thread nD τ) ↦{fullShare} f)

theorem bufAny_split (q : Fin 2) (c : Dev nD) : (bufAny q c : sProp 𝕄) ⊢ iprop(slotAny q 0 c ∗ slotAny q 1 c) := by
  unfold bufAny slotAny slotPts
  iintro ⟨%f, H⟩
  have hs := (pointsTo_union (nD := nD) (τ := τ) (sig := sig) (Ix := ℕ) (Val := Elt F) (Name := ℕ) (U := UU) (Lvl := ℕ)
    (ℓ := (sbuf q).view.loc (c : Thread nD τ)) (q := fullShare) (f := f) (slot_disjoint q)).1
  rw [slot_union q] at hs
  ihave H' := hs $$ H
  icases H' with ⟨H0, H1⟩
  isplitl [H0]
  · iexists f; iexact H0
  · iexists f; iexact H1

theorem bufAny_join (q : Fin 2) (c : Dev nD) : iprop(slotAny q 0 c ∗ slotAny q 1 c) ⊢ (bufAny q c : sProp 𝕄) := by
  unfold bufAny slotAny slotPts
  iintro ⟨⟨%f, H0⟩, ⟨%g, H1⟩⟩
  have hs := pointsTo_join (nD := nD) (τ := τ) (sig := sig) (Ix := ℕ) (Val := Elt F) (Name := ℕ) (U := UU) (Lvl := ℕ)
    (ℓ := (sbuf q).view.loc (c : Thread nD τ)) (q := fullShare) (f := f) (g := g) (slot_disjoint q)
  rw [slot_union q] at hs
  iexists ((slotSet q 1).piecewise g f)
  iapply hs
  isplitl [H0] <;> iassumption

/-- What a phase leaves, as its whole buffer and its places. -/
theorem phaseEnd_buf (q : Fin 2) (c : Dev nD) : (phaseEnd q c : sProp 𝕄) ⊢ iprop(bufAny q c ∗ placesMid q 30 c) := by
  unfold phaseEnd
  rw [slotAny_congr q (show 30 % 2 = 0 % 2 from rfl) c, slotAny_congr q (show 31 % 2 = 1 % 2 from rfl) c]
  iintro ⟨H0, H1, HP⟩
  isplitl [H0 H1]
  · iapply (bufAny_join q c)
    isplitl [H0] <;> iassumption
  · iexact HP

/-! ### The result -/

theorem rowsO_at (f : opO.view.ty.Contents (Elt F)) (n : Fin 32) (x : S64x2048.Idx) (i : S2048x2048.Idx)
    (h0 : (i 0).val = 64 * n.val + (x 0).val) (h1 : (i 1).val = (x 1).val) : rowsO f n x = f i := by
  show f ((rowO n).emb x) = f i
  congr 1
  refine funext fun a => Fin.ext ?_
  fin_cases a
  · show 64 * n.val + 1 * (x 0).val = (i 0).val; omega
  · show 0 + 1 * (x 1).val = (i 1).val; omega

/-- A row block's position among those a device receives. -/
theorem bk_surj (p n : Fin 32) : ∃ j < 32, bk p (j + 31) = n := by
  refine ⟨(p.val + 32 - n.val + 1) % 32, Nat.mod_lt _ (by decide), Fin.ext ?_⟩
  show (p.val + 31 * ((p.val + 32 - n.val + 1) % 32 + 31)) % 32 = n.val
  omega

/-- A row within its block, as an index of the block. -/
def inBlock (i : S2048x2048.Idx) : S64x2048.Idx := fun a => ⟨if a = 0 then (i 0).val % 64 else (i 1).val, by
  have h1 : (i 1).val < 2048 := (i 1).isLt
  fin_cases a
  · show (i 0).val % 64 < 64; omega
  · show (i 1).val < 2048; omega⟩

/-- The row block of an index. -/
def blockOf (i : S2048x2048.Idx) : Fin 32 := ⟨(i 0).val / 64, by have h : (i 0).val < 2048 := (i 0).isLt; omega⟩

theorem rowsO_inBlock (f : opO.view.ty.Contents (Elt F)) (i : S2048x2048.Idx) : rowsO f (blockOf i) (inBlock i) = f i :=
  rowsO_at f _ _ i (by show (i 0).val = 64 * ((i 0).val / 64) + (i 0).val % 64; omega) rfl

variable [FloatOps F]

/-- A complete result is the only one. -/
theorem Got.unique {A : Dev nD → opA.view.ty.Contents (Elt F)} {B : Dev nD → opB.view.ty.Contents (Elt F)} {c : Dev nD}
    {f g : opO.view.ty.Contents (Elt F)} (hf : Got A B c 32 f) (hg : Got A B c 32 g) : f = g := by
  funext i
  obtain ⟨j, hj, e⟩ := bk_surj (pos c) (blockOf i)
  rw [← rowsO_inBlock f i, ← rowsO_inBlock g i, ← e, hf j hj, hg j hj]

end Cert.Proof

end
-- ==== Proof.Own.lean ====
/-
  All semaphores of the exchange together; a device's own ones opened at entry and closed at the end.
-/
module

public import proofs.«01_k».proof.Proof.Slots

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig ℕ (Elt F) ℕ UU ℕ

/-! ### The semaphores -/

/-- A phase's five: two that count sends, two that count arrivals, and the credits. -/
abbrev Slot5 : Type := Fin 2 × Fin 5

def osem (k : Slot5) : SemLoc sig :=
  match k.2 with
  | 0 => .dma (semM (ssem k.1) 0)
  | 1 => .dma (semM (ssem k.1) 1)
  | 2 => .dma (semM (rsem k.1) 0)
  | 3 => .dma (semM (rsem k.1) 1)
  | 4 => .reg (csem k.1).sem

theorem osem_facts : Pipeline.OwnSemFacts spec0 osem := by decide

theorem osem_inj : Function.Injective osem := osem_facts.inj

def barEmb : Dev nD ↪ GSem nD τ sig := ⟨barCell, fun _ _ h => congrArg (fun g : GSem nD τ sig => g.1.1) h⟩

def scEmb : Dev nD × Slot5 ↪ GSem nD τ sig :=
  ⟨fun x => ((x.1 : Thread nD τ), osem x.2), fun x y h =>
    Prod.ext (congrArg (fun g : GSem nD τ sig => g.1.1) h) (osem_inj (congrArg Prod.snd h))⟩

def barCells : Finset (GSem nD τ sig) := Finset.univ.map barEmb
def scCells : Finset (GSem nD τ sig) := Finset.univ.map scEmb
def allCells : Finset (GSem nD τ sig) := barCells ∪ scCells

theorem osem_ne_bar : ∀ k, osem k ≠ .reg bsem := by decide

theorem disjoint_cells : Disjoint barCells scCells := by
  rw [Finset.disjoint_left]
  intro g hb hs
  obtain ⟨c, -, rfl⟩ := Finset.mem_map.mp hb
  obtain ⟨x, -, hx⟩ := Finset.mem_map.mp hs
  exact osem_ne_bar x.2 (congrArg Prod.snd hx)

theorem kind_some : ∀ sm : SemLoc sig, kind sm ≠ none → sm = .reg bsem ∨ ∃ k, osem k = sm := by decide

theorem mem_cells (c : Dev nD) (sm : SemLoc sig) (h : kind sm ≠ none) : ((c : Thread nD τ), sm) ∈ allCells := by
  refine Finset.mem_union.mpr ?_
  obtain rfl | ⟨k, rfl⟩ := kind_some sm h
  · exact .inl (Finset.mem_map.mpr ⟨c, Finset.mem_univ _, rfl⟩)
  · exact .inr (Finset.mem_map.mpr ⟨(c, k), Finset.mem_univ _, rfl⟩)

/-- Something for each of a device's ten. -/
theorem ten_eq {M : Type} [URA M] (Φ : Slot5 → sProp M) : bigSep Finset.univ Φ
    = iprop((Φ (0, 0) ∗ Φ (0, 1) ∗ Φ (0, 2) ∗ Φ (0, 3) ∗ Φ (0, 4)) ∗ (Φ (1, 0) ∗ Φ (1, 1) ∗ Φ (1, 2) ∗ Φ (1, 3) ∗ Φ (1, 4))) := by
  rw [bigSep_univ_prod, bigSep_fin_two, bigSep_univ_eq_bigSepL [(0 : Fin 5), 1, 2, 3, 4] (by decide) (by decide),
    bigSep_univ_eq_bigSepL [(0 : Fin 5), 1, 2, 3, 4] (by decide) (by decide)]
  rfl

/-! ### Opening and closing -/

section

variable (C : Fin 2 → ℕ → Dev nD → Vec F S1x64x2048 .bf16) (κ : GSem nD τ sig → ℕ) (c : Dev nD)

theorem kind_osem : ∀ k, kind (osem k) ≠ none := by decide

theorem cell_opened (k : Slot5) :
    iprop(records C allCells κ ∗ openTok ER ((c : Thread nD τ), osem k) ∗ semVal ((c : Thread nD τ), osem k) 0)
      ⊢ (|={Set.univ}=> place ((c : Thread nD τ), osem k) 0 : sProp 𝕄) := by
  unfold place
  iintro ⟨#HR, Ho, Hv⟩
  ihave #Hi := (records_inv C (κ := κ) (mem_cells c (osem k) (kind_osem k))) $$ HR
  iapply (Rounds.cell_open ER (talkRd C) (g := ((c : Thread nD τ), osem k)) (Set.mem_univ (κ ((c : Thread nD τ), osem k))))
  isplitr; · iexact Hi
  isplitl [Ho] <;> iassumption

theorem cell_closed (sm : SemLoc sig) (hk : kind sm ≠ none) (r : ℕ) (hr : nrounds (kind sm) ≤ r) :
    iprop(records C allCells κ ∗ place ((c : Thread nD τ), sm) r) ⊢ (|={Set.univ}=> semVal ((c : Thread nD τ), sm) 0 : sProp 𝕄) := by
  unfold place
  iintro ⟨#HR, Ha, -⟩
  ihave #Hi := (records_inv C (κ := κ) (mem_cells c sm hk)) $$ HR
  iapply (Rounds.cell_close ER (talkRd C) (g := ((c : Thread nD τ), sm)) (Set.mem_univ (κ ((c : Thread nD τ), sm))) id
    (R := r) fun r' h => duties_end C ((c : Thread nD τ), sm) r' (le_trans hr h))
  isplitr; · iexact Hi
  iexact Ha

/-- The ten opened. -/
theorem cells_opened :
    iprop(records C allCells κ ∗ (bigSep Finset.univ fun k => openTok ER ((c : Thread nD τ), osem k)) ∗ Pipeline.ownSems0 osem c)
      ⊢ (|={Set.univ}=> (places 0 0 c ∗ places 1 0 c) : sProp 𝕄) := by
  have h1 : iprop(records C allCells κ ∗ (bigSep Finset.univ fun k => openTok ER ((c : Thread nD τ), osem k)) ∗ Pipeline.ownSems0 osem c)
      ⊢ (|={Set.univ}=> bigSep Finset.univ (fun k => place ((c : Thread nD τ), osem k) 0) : sProp 𝕄) := by
    unfold Pipeline.ownSems0
    rw [← bigSep_sep']
    refine .trans ?_ (bigSep_fupd _ _)
    exact bigSep_with_persistent (R := records C allCells κ) fun k _ => cell_opened C κ c k
  refine h1.trans ?_
  rw [ten_eq]
  unfold places
  iintro H
  imod H with ⟨⟨H1, H2, H3, H4, H5⟩, H6, H7, H8, H9, H10⟩
  imodintro
  isplitl [H1 H2 H3 H4 H5]
  · isplitl [H1 H2]
    · isplitl [H1]; · iexact H1
      iexact H2
    isplitl [H3 H4]
    · isplitl [H4]; · iexact H4
      iexact H3
    iexact H5
  · isplitl [H6 H7]
    · isplitl [H6]; · iexact H6
      iexact H7
    isplitl [H8 H9]
    · isplitl [H9]; · iexact H9
      iexact H8
    iexact H10

/-- What a phase's places are at its end. -/
def nEnd : Fin 5 → ℕ
  | 0 => 16 | 1 => 15 | 2 => 15 | 3 => 16 | 4 => 30

theorem nEnd_le : ∀ k : Slot5, nrounds (kind (osem k)) ≤ nEnd k.2 := by decide

theorem places_end (q : Fin 2) : (placesMid q 30 c : sProp 𝕄) ⊢ iprop(place ((c : Thread nD τ), osem (q, 0)) 16 ∗ place ((c : Thread nD τ), osem (q, 1)) 15
    ∗ place ((c : Thread nD τ), osem (q, 2)) 15 ∗ place ((c : Thread nD τ), osem (q, 3)) 16 ∗ place ((c : Thread nD τ), osem (q, 4)) 30) := by
  unfold placesMid
  rw [sendCell_congr q (show 31 % 2 = 1 % 2 from rfl) c, sendCell_congr q (show 30 % 2 = 0 % 2 from rfl) c,
    recvCell_congr q (show 31 % 2 = 1 % 2 from rfl) c, recvCell_congr q (show 30 % 2 = 0 % 2 from rfl) c]
  iintro ⟨⟨H1, H2⟩, ⟨H3, H4⟩, H5⟩
  isplitl [H2]; · iexact H2
  isplitl [H1]; · iexact H1
  isplitl [H3]; · iexact H3
  isplitl [H4]; · iexact H4
  iexact H5

/-- The ten closed. -/
theorem cells_closed : iprop(records C allCells κ ∗ placesMid 0 30 c ∗ placesMid 1 30 c) ⊢ (|={Set.univ}=> Pipeline.ownSems0 osem c : sProp 𝕄) := by
  have h1 : iprop(records C allCells κ ∗ bigSep Finset.univ (fun k : Slot5 => place ((c : Thread nD τ), osem k) (nEnd k.2)))
      ⊢ (|={Set.univ}=> Pipeline.ownSems0 osem c : sProp 𝕄) := by
    unfold Pipeline.ownSems0
    refine .trans ?_ (bigSep_fupd _ _)
    exact bigSep_with_persistent (R := records C allCells κ) fun k _ => cell_closed C κ c (osem k) (kind_osem k) (nEnd k.2) (nEnd_le k)
  refine .trans ?_ h1
  rw [ten_eq]
  iintro ⟨#HR, H0, H1⟩
  isplitr; · iexact HR
  isplitl [H0]
  · iapply (places_end c 0) $$ H0
  · iapply (places_end c 1) $$ H1

end

end Cert.Proof

end
-- ==== Proof.HostWords.lean ====
/-
  What the host code before the region leaves in the buffer of words.
-/
module

public import proofs.«01_k».proof.Proof.Gen.KernelIdeal.Regions
public import proofs.«01_k».proof.Proof.Body
public import Idealize.ShloMosaic.Lib.StableHlo.RunClose

@[expose] public section

namespace Cert.Proof

open Cert.KernelIdeal Cert.KernelIdeal.Gen
open Idealize.ShloMosaic Idealize.ShloMosaic.StableHlo Idealize.ShloMosaic.TcCoe

variable {F : FTy → Type} [FloatOps F]
variable (m : (ℓ : Loc nD τ sig) → Buf (Elt F) ℓ) (c : Dev nD)

/-- The table's entry at one word. -/
def lookV (t : IVec S32 32) (j : IVec S_ 32) : IVec S_ 32 :=
  shapeCast S_ (Host.dynamicSlice S1 t (fun k => ((![select (cmpi .slt j (constantI S_ 32 0#32)) (addi j (constantI S_ 32 32#32)) j] : Fin 1 → IVec S_ 32) k
    (Shape.Idx.first h_S_)).toInt) sliceFits_S32_S1) shapeCasts_S1_S_

set_option maxRecDepth 100000 in
theorem lookV_cyc : ∀ (p : Fin 32) (i : S_.Idx),
    lookV (fun i => BitVec.ofNat 32 (cyc (S32.rowMajor i)).val) (fun _ => BitVec.ofNat 32 p.val) i = BitVec.ofNat 32 (cyc p).val := by
  decide +kernel

set_option maxRecDepth 100000 in
theorem lookV_pos : ∀ (c : Dev nD) (i : S_.Idx),
    lookV (fun i => lit1 (S32.rowMajor i)) (Host.remui (Host.divui (constantI S_ 32 (Dev.word c)) (constantI S_ 32 1#32)) (constantI S_ 32 32#32)) i
      = BitVec.ofNat 32 (pos c).val := by
  decide +kernel

theorem V1_pos : V1 m c main_v9 = fun _ => (BitVec.ofNat 32 (pos c).val : BitVec 32) := by
  unfold V1 hostOps0
  after_results_simp_entrywise
  exact funext fun i => lookV_pos c i

theorem V1_pred : V1 m c main_v10 = fun _ => (BitVec.ofNat 32 (pos c).val - 1#32 : BitVec 32) := by
  unfold V1 hostOps0
  after_results_simp_entrywise
  exact funext fun i => congrArg (· - 1#32) (lookV_pos c i)

theorem V1_len : V1 m c main_c_6 = fun _ => (32#32 : BitVec 32) := by
  unfold V1 hostOps0
  after_results_simp_entrywise
  rfl

theorem V1_cyc : V1 m c main_c = fun i : S32.Idx => (BitVec.ofNat 32 (cyc (S32.rowMajor i)).val : BitVec 32) := by
  unfold V1 hostOps0
  after_results_simp_entrywise
  funext i
  show lit0 (S32.rowMajor i) = _
  generalize (S32.rowMajor i) = j
  revert j
  decide +kernel

/-- The host's remainder of one word by another, with the sign of the divisor. -/
def remV (x n : IVec S_ 32) : IVec S_ 32 :=
  let d : IVec S_ 32 := select (cmpi .eq n (constantI S_ 32 0#32)) (constantI S_ 32 1#32) n
  let r : IVec S_ 32 := Host.remsi x d
  select (andi (cmpi .ne (cmpi .slt r (constantI S_ 32 0#32)) (cmpi .slt d (constantI S_ 32 0#32))) (cmpi .ne r (constantI S_ 32 0#32)))
    (addi r d) r

set_option maxRecDepth 100000 in
theorem remV_pred : ∀ (p : Fin 32) (i : S_.Idx), remV (fun _ => BitVec.ofNat 32 p.val - 1#32) (fun _ => 32#32) i = BitVec.ofNat 32 (p - 1).val := by
  decide +kernel
set_option maxRecDepth 100000 in
theorem remV_succ : ∀ (p : Fin 32) (i : S_.Idx), remV (fun _ => BitVec.ofNat 32 p.val + 1#32) (fun _ => 32#32) i = BitVec.ofNat 32 (p + 1).val := by
  decide +kernel

theorem after_mod0 (W : Valuation τ sig (Elt F)) (p : Fin 32) (h : W main_v10 = fun _ => (BitVec.ofNat 32 p.val - 1#32 : BitVec 32))
    (h32 : W main_c_6 = fun _ => (32#32 : BitVec 32)) :
    after hostOps0_1 W main_v11 = fun _ => (BitVec.ofNat 32 (p - 1).val : BitVec 32) := by
  unfold hostOps0_1
  after_results_simp
  rw [h, h32]
  exact (show _ = remV (fun _ => BitVec.ofNat 32 p.val - 1#32) (fun _ => 32#32) from rfl).trans (funext fun i => remV_pred p i)

theorem after_mod1 (W : Valuation τ sig (Elt F)) (p : Fin 32) (h : W main_v17 = fun _ => (BitVec.ofNat 32 p.val + 1#32 : BitVec 32))
    (h32 : W main_c_10 = fun _ => (32#32 : BitVec 32)) :
    after hostOps0_3 W main_v18 = fun _ => (BitVec.ofNat 32 (p + 1).val : BitVec 32) := by
  unfold hostOps0_3
  after_results_simp
  rw [h, h32]
  exact (show _ = remV (fun _ => BitVec.ofNat 32 p.val + 1#32) (fun _ => 32#32) from rfl).trans (funext fun i => remV_succ p i)

theorem after_lft (W : Valuation τ sig (Elt F)) (p : Fin 32) (h : W main_v11 = fun _ => (BitVec.ofNat 32 p.val : BitVec 32))
    (hc : W main_c = fun i : S32.Idx => (BitVec.ofNat 32 (cyc (S32.rowMajor i)).val : BitVec 32)) :
    after hostOps0_2 W main_v16 = fun _ => (BitVec.ofNat 32 (cyc p).val : BitVec 32) := by
  unfold hostOps0_2
  after_results_simp_entrywise
  rw [h, hc]
  exact (show _ = lookV (fun i => BitVec.ofNat 32 (cyc (S32.rowMajor i)).val) (fun _ => BitVec.ofNat 32 p.val) from rfl).trans
    (funext fun i => lookV_cyc p i)

theorem after_succ (W : Valuation τ sig (Elt F)) (p : Fin 32) (h : W main_v9 = fun _ => (BitVec.ofNat 32 p.val : BitVec 32)) :
    after hostOps0_2 W main_v17 = fun _ => (BitVec.ofNat 32 p.val + 1#32 : BitVec 32) := by
  unfold hostOps0_2
  after_results_simp_entrywise
  rw [h]
  rfl

theorem after_len (W : Valuation τ sig (Elt F)) : after hostOps0_2 W main_c_10 = fun _ => (32#32 : BitVec 32) := by
  unfold hostOps0_2
  after_results_simp_entrywise
  rfl

theorem after_join (U : Valuation τ sig (Elt F)) (x y z : BitVec 32) (hx : U main_v24 = fun _ => x) (hy : U main_v25 = fun _ => y)
    (hz : U main_v26 = fun _ => z) :
    wordAt (F := F) (after (hostOps0_4.drop 10) U main_v27) 0 = x ∧ wordAt (F := F) (after (hostOps0_4.drop 10) U main_v27) 1 = y
      ∧ wordAt (F := F) (after (hostOps0_4.drop 10) U main_v27) 2 = z := by
  have e : after (hostOps0_4.drop 10) U main_v27
      = concatenate S3 0 [⟨S1, (U main_v24 : (⟨S1, .i32⟩ : BufTy).Contents (Elt F))⟩, ⟨S1, (U main_v25 : (⟨S1, .i32⟩ : BufTy).Contents (Elt F))⟩,
          ⟨S1, (U main_v26 : (⟨S1, .i32⟩ : BufTy).Contents (Elt F))⟩] concatenates_S1_S1_S1_S3_d0 := by
    show after [_] U main_v27 = _
    after_results_simp
    rfl
  rw [e, hx, hy, hz]
  exact ⟨rfl, rfl, rfl⟩

theorem after_words (W : Valuation τ sig (Elt F)) (p : Fin 32) (x y : BitVec 32) (h : W main_v18 = fun _ => (BitVec.ofNat 32 p.val : BitVec 32))
    (hc : W main_c = fun i : S32.Idx => (BitVec.ofNat 32 (cyc (S32.rowMajor i)).val : BitVec 32)) (hx : W main_v9 = fun _ => x)
    (hy : W main_v16 = fun _ => y) :
    wordAt (F := F) (after hostOps0_4 W main_v27) 0 = x ∧ wordAt (F := F) (after hostOps0_4 W main_v27) 1 = y
      ∧ wordAt (F := F) (after hostOps0_4 W main_v27) 2 = BitVec.ofNat 32 (cyc p).val := by
  have e : after hostOps0_4 W = after (hostOps0_4.drop 10) (after (hostOps0_4.take 10) W) := rfl
  rw [e]
  refine after_join _ x y _ ?_ ?_ ?_
  · show after [_, _, _, _, _, _, _, _, _, _] W main_v24 = _
    after_results_simp_entrywise
    rw [hx]; rfl
  · show after [_, _, _, _, _, _, _, _, _, _] W main_v25 = _
    after_results_simp_entrywise
    rw [hy]; rfl
  · show after [_, _, _, _, _, _, _, _, _, _] W main_v26 = _
    after_results_simp_entrywise
    rw [h, hc]
    funext i
    exact lookV_cyc p _

/-- The words staged for the region: this device's position, the device before it and the device after it. -/
theorem words (m : (ℓ : Loc nD τ sig) → Buf (Elt F) ℓ) (c : Dev nD) :
    wordAt (F := F) (V5 m c main_v27) 0 = BitVec.ofNat 32 (pos c).val ∧ wordAt (F := F) (V5 m c main_v27) 1 = BitVec.ofNat 32 (lft c).val
      ∧ wordAt (F := F) (V5 m c main_v27) 2 = BitVec.ofNat 32 (rgt c).val := by
  have c2 : V2 m c main_c = _ := (V2_of m c main_c (by decide)).trans (V1_cyc m c)
  have c4 : V4 m c main_c = _ := (V4_of m c main_c (by decide)).trans ((V3_of m c main_c (by decide)).trans c2)
  have p2 : V2 m c main_v9 = _ := (V2_of m c main_v9 (by decide)).trans (V1_pos m c)
  have p4 : V4 m c main_v9 = _ := (V4_of m c main_v9 (by decide)).trans ((V3_of m c main_v9 (by decide)).trans p2)
  have l3 : V3 m c main_v16 = _ := after_lft (V2 m c) (pos c - 1) (after_mod0 (V1 m c) (pos c) (V1_pred m c) (V1_len m c)) c2
  have l4 : V4 m c main_v16 = _ := (V4_of m c main_v16 (by decide)).trans l3
  have r4 : V4 m c main_v18 = _ := after_mod1 (V3 m c) (pos c) (after_succ (V2 m c) (pos c) p2) (after_len (V2 m c))
  exact after_words (V4 m c) (pos c + 1) _ _ r4 c4 p4 l4

end Cert.Proof
-- ==== Proof.Region.lean ====
/-
  The kernel call on device `c`: what its pipeline finds and leaves, and the body between.
-/
module

public import proofs.«01_k».proof.Proof.Own
public import proofs.«01_k».proof.Proof.HostWords
public import proofs.«01_k».proof.Proof.Gen.KernelIdeal.Points
public import proofs.«01_k».proof.Proof.Gen.KernelIdeal.Regions
public import Idealize.ShloMosaic.Lib.Pipeline.ValueKit
public import Idealize.ShloMosaic.Lib.Pipeline.RegionTalk

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ### What is staged, and what is written back -/

def stA (c : Dev nD) : opA.view.ty.Contents (Elt F) := V5 m c main_arg0
def stB (c : Dev nD) : opB.view.ty.Contents (Elt F) := V5 m c main_arg1
def stW (c : Dev nD) : opW.view.ty.Contents (Elt F) := V5 m c main_v27

open Classical in
/-- The result of device `c`. -/
def outC (c : Dev nD) : opO.view.ty.Contents (Elt F) :=
  if h : ∃ f, Got (stA m) (stB m) c 32 f then h.choose else V5 m c main_v28

theorem outC_eq {c : Dev nD} {f : opO.view.ty.Contents (Elt F)} (h : Got (stA m) (stB m) c 32 f) : f = outC m c := by
  have hx : ∃ f, Got (stA m) (stB m) c 32 f := ⟨f, h⟩
  unfold outC
  rw [dif_pos hx]
  exact h.unique hx.choose_spec

/-- The result as the only buffer the call changes. -/
def outs : Outs (F := F) := fun _ r c => (Function.update (V5 m c) main_v28 (outC m c)) r

theorem outs_eq (c : Dev nD) : outs m 6 main_v28 c = outC m c := Function.update_self ..

/-! ### Before and after the body -/

/-- The exchange's contents. -/
abbrev cts : Fin 2 → ℕ → Dev nD → Vec F S1x64x2048 .bf16 := cont (stA m) (stB m)

def hops (q : Fin 2) (c : Dev nD) : sProp 𝕄 := iprop(bigSep (Finset.Ico 0 31) (hopR q c) ∗ bigSep (Finset.Ico 0 30) (hopC q c))

def entry (c : Dev nD) : sProp 𝕄 :=
  iprop(∃ κ, records (cts m) allCells κ ∗ barStart c ∗ (places 0 0 c ∗ places 1 0 c) ∗ hops 0 c ∗ hops 1 c)

def phi0 (c : Dev nD) : sProp 𝕄 := iprop(entry m c ∗ (bufAny 0 c ∗ bufAny 1 c) ∗ ∃ r, prngReg c r)
def phi1 (c : Dev nD) : sProp 𝕄 := iprop((semVal (barCell c) 0 ∗ Pipeline.ownSems0 osem c) ∗ (bufAny 0 c ∗ bufAny 1 c) ∗ ∃ r, prngReg c r)

def dat (c : Dev nD) : Dat τ (Elt F) ℕ ℕ UU ℕ cfg0 c where
  A w := V5 m c (Proc.devRef .tc (Pipeline.arrRef spec0 w))
  after w _ := match w with
    | 0 => stA m c
    | 1 => stB m c
    | 2 => stW m c
    | 3 => outC m c
  Φ t := if t.val = 0 then phi0 m c else phi1 c
  q _ := fullShare
  owed t := if t.val = 0 then due0 c else 0

theorem owesAt_out (c : Dev nD) (t) (O : CellTallies nD τ sig ℕ) (h : (dat m c).owed t = O) : ((dat m c).owesAt 0 t : sProp 𝕄) ⊢ owesAny c O := by
  unfold Dat.owesAt Pipeline.owesWithin Dat.bound owesAny
  rw [h]
  iintro ⟨%W, -, HO⟩
  iexists W; iexact HO

theorem owesAt_into (c : Dev nD) (t) (O : CellTallies nD τ sig ℕ) (h : (dat m c).owed t = O) : (owesAny c O : sProp 𝕄) ⊢ (dat m c).owesAt 0 t := by
  unfold Dat.owesAt Pipeline.owesWithin Dat.bound owesAny
  rw [h]
  iintro ⟨%W, HO⟩
  iexists W
  isplitr
  · ipureintro; exact fun _ _ => Or.inl trivial
  iexact HO

theorem blk0_read (X : opA.view.ty.Contents (Elt F)) : (win0_0.blk t0_0).view.read (Elt F) X = X := by
  funext j
  refine congrArg X (funext fun a => Fin.ext ?_)
  show 0 * S2048x1024.size a + 1 * (j a).val = (j a).val
  omega
theorem blk1_read (X : opB.view.ty.Contents (Elt F)) : (win0_1.blk t0_0).view.read (Elt F) X = X := by
  funext j
  refine congrArg X (funext fun a => Fin.ext ?_)
  show 0 * S1024x2048.size a + 1 * (j a).val = (j a).val
  omega
theorem blk2_read (X : opW.view.ty.Contents (Elt F)) : (win0_2.blk t0_0).view.read (Elt F) X = X := by
  funext j
  refine congrArg X (funext fun a => Fin.ext ?_)
  show 0 * S3.size a + 1 * (j a).val = (j a).val
  omega

theorem before0 (c : Dev nD) (d) : (dat m c).before 0 t0_0 d = stA m c := by
  unfold Dat.before; rw [if_pos (fetch0_0 t0_0)]
  exact blk0_read (V5 m c main_arg0)
theorem before1 (c : Dev nD) (d) : (dat m c).before 1 t0_0 d = stB m c := by
  unfold Dat.before; rw [if_pos (fetch0_1 t0_0)]
  exact blk1_read (V5 m c main_arg1)
theorem before2 (c : Dev nD) (d) : (dat m c).before 2 t0_0 d = stW m c := by
  unfold Dat.before; rw [if_pos (fetch0_2 t0_0)]
  exact blk2_read (V5 m c main_v27)

theorem arr_in (c : Dev nD) : ∀ w : Fin 4, w ≠ 3 → ∀ n, (dat m c).arrAt w n = V5 m c (Proc.devRef .tc (Pipeline.arrRef spec0 w))
  | 0, _, n => (dat m c).arrAt_in 0 rfl n
  | 1, _, n => (dat m c).arrAt_in 1 rfl n
  | 2, _, n => (dat m c).arrAt_in 2 rfl n
  | 3, h, _ => absurd rfl h

theorem arr_out (c : Dev nD) : (dat m c).arrAt 3 cfg0.N = outC m c := by
  refine (dat m c).arrAt_eq_of_after_last 3 t0_0 (by decide +kernel) _ fun j => ?_
  rfl

/-! ### The body -/

/-- The body, from all the pipeline hands it to all it hands back. -/
theorem body_run (c : Dev nD) (f3 : opO.view.ty.Contents (Elt F)) :
    iprop(phi0 m c ∗ owesAny c (due0 c) ∗ factors c (stA m c) (stB m c) ∗ wordsPts c (stW m c) ∗ outPts c f3)
      ⊢ runs c (cc0_body opA (Memref.isWhole_whole _) opB (Memref.isWhole_whole _) opW (Memref.isWhole_whole _) opO opO_whole
            (sbuf 0) (sbuf_whole 0) (sbuf 1) (sbuf_whole 1) (ssem 0) (rsem 0) (ssem 1) (rsem 1) (csem 0) (csem 1))
          (fun _ => iprop(phi1 c ∗ owesAny c 0 ∗ factors c (stA m c) (stB m c) ∗ wordsPts c (stW m c) ∗ outPts c (outC m c))) := by
  refine .trans ?_ (wp_fupd _ _ _ _ _)
  obtain ⟨h0, h1, h2⟩ := words m c
  unfold phi0 entry hops
  iintro ⟨⟨⟨%κ, #HR, HB, ⟨HP0, HP1⟩, ⟨HhR0, HhC0⟩, ⟨HhR1, HhC1⟩⟩, ⟨Hb0, Hb1⟩, Hreg⟩, HO, Hf, Hw, Ho⟩
  ihave H0 := (bufAny_split 0 c) $$ Hb0
  icases H0 with ⟨Ha0, Ha1⟩
  ihave H1 := (bufAny_split 1 c) $$ Hb1
  icases H1 with ⟨Hc0, Hc1⟩
  iapply (run_body (stA m) (stB m) mem_cells κ c _ (stW m c) h0 h1 h2) $$ [HB HP0 HP1 HhR0 HhC0 HhR1 HhC1 Ha0 Ha1 Hc0 Hc1 HO Hf Hw Ho]
  · isplitr; · iexact HR
    isplitl [Hw]; · iexact Hw
    unfold start phaseStart
    isplitl [Hf]; · iexact Hf
    isplitl [Ho]; · iexists f3; iexact Ho
    isplitl [HB]; · iexact HB
    isplitl [Ha0 Ha1 HP0 HhR0 HhC0]
    · isplitl [Ha0]; · iexact Ha0
      isplitl [Ha1]; · iexact Ha1
      isplitl [HP0]; · iexact HP0
      isplitl [HhR0] <;> iassumption
    isplitl [Hc0 Hc1 HP1 HhR1 HhC1]
    · isplitl [Hc0]; · iexact Hc0
      isplitl [Hc1]; · iexact Hc1
      isplitl [HP1]; · iexact HP1
      isplitl [HhR1] <;> iassumption
    iexact HO
  unfold finish outGot
  iintro ⟨Hw, Hf, ⟨%f, %hf, Ho⟩, HB, HE0, HE1, HO⟩
  ihave H0 := (phaseEnd_buf 0 c) $$ HE0
  icases H0 with ⟨Hb0, HP0⟩
  ihave H1 := (phaseEnd_buf 1 c) $$ HE1
  icases H1 with ⟨Hb1, HP1⟩
  imod (cells_closed (cts m) κ c) $$ [HP0 HP1] with Hown
  · isplitr; · iexact HR
    isplitl [HP0] <;> iassumption
  imod (cell_closed (cts m) κ c (.reg bsem) (by decide) 1 (by decide)) $$ [HB] with Hbar
  · isplitr; · iexact HR
    iexact HB
  imodintro
  unfold phi1
  isplitl [Hbar Hown Hb0 Hb1 Hreg]
  · isplitl [Hbar Hown]
    · isplitl [Hbar] <;> iassumption
    isplitl [Hb0 Hb1]
    · isplitl [Hb0] <;> iassumption
    iexact Hreg
  isplitl [HO]; · iexact HO
  isplitl [Hf]; · iexact Hf
  isplitl [Hw]; · iexact Hw
  rw [← outC_eq m hf]
  iexact Ho

theorem body_args (a : Memref sig .tc .vmem S2048x1024 .bf16) (ha : a.IsWhole) (b : Memref sig .tc .vmem S1024x2048 .bf16) (hb : b.IsWhole)
    (w : Memref sig .tc .smem S3 .i32) (hw : w.IsWhole) (o : Memref sig .tc .vmem S2048x2048 .bf16) (ho : o.IsWhole)
    (ea : a = opA) (eb : b = opB) (ew : w = opW) (eo : o = opO) :
    (cc0_body a ha b hb w hw o ho (Memref.whole cc0_scratch0) (Memref.isWhole_whole _) (Memref.whole cc0_scratch1) (Memref.isWhole_whole _)
        cc0_scratch2 cc0_scratch3 cc0_scratch4 cc0_scratch5 cc0_scratch6 cc0_scratch7 : Pg F)
      = cc0_body opA (Memref.isWhole_whole _) opB (Memref.isWhole_whole _) opW (Memref.isWhole_whole _) opO opO_whole
        (sbuf 0) (sbuf_whole 0) (sbuf 1) (sbuf_whole 1) (ssem 0) (rsem 0) (ssem 1) (rsem 1) (csem 0) (csem 1) := by
  subst ea eb ew eo; rfl

/-- The body as the pipeline calls it. -/
theorem body_called : (defs₀ (F := F) Proc.tc 0 (t0_0, cfg0.slots t0_0) : Pg F)
    = cc0_body opA (Memref.isWhole_whole _) opB (Memref.isWhole_whole _) opW (Memref.isWhole_whole _) opO opO_whole
        (sbuf 0) (sbuf_whole 0) (sbuf 1) (sbuf_whole 1) (ssem 0) (rsem 0) (ssem 1) (rsem 1) (csem 0) (csem 1) :=
  body_args _ _ _ _ _ _ _ _ rfl rfl rfl rfl

theorem body_ob (c : Dev nD) : BodyObligation (dat m c) (defs₀ (F := F)) 𝒱₀ 0 Set.univ := fun t => by
  rw [fin_N0 t, bigSep_W0, bigSep_W0]
  simp only [owns_whole_eq]
  rw [show (dat m c).Φ t0_0.castSucc = phi0 m c from rfl, show (dat m c).Φ t0_0.succ = phi1 c from rfl]
  rw [body_called]
  iintro ⟨HΦ, HO, ⟨%d0, %f0, %e0, H0⟩, ⟨%d1, %f1, %e1, H1⟩, ⟨%d2, %f2, %e2, H2⟩, ⟨%d3, %f3, %e3, H3⟩⟩
  ihave HO := (owesAt_out m c t0_0.castSucc (due0 c) rfl) $$ HO
  rw [before0] at e0
  rw [before1] at e1
  rw [before2] at e2
  subst e0 e1 e2
  have hm : ∀ _ : PUnit.{1}, (iprop(phi1 c ∗ owesAny c 0 ∗ factors c (stA m c) (stB m c) ∗ wordsPts c (stW m c) ∗ outPts c (outC m c)) : sProp 𝕄)
      ⊢ iprop(phi1 c ∗ (dat m c).owesAt 0 t0_0.succ ∗ (∃ f, ⌜f = (dat m c).after 0 t0_0⌝ ∗ ((c : Thread nD τ).loc cc0_stg0_0 ↦{fullShare} f))
        ∗ (∃ f, ⌜f = (dat m c).after 1 t0_0⌝ ∗ ((c : Thread nD τ).loc cc0_stg1_0 ↦{fullShare} f))
        ∗ (∃ f, ⌜f = (dat m c).after 2 t0_0⌝ ∗ ((c : Thread nD τ).loc cc0_stg2_0 ↦{fullShare} f))
        ∗ ∃ f, ⌜f = (dat m c).after 3 t0_0⌝ ∗ ((c : Thread nD τ).loc cc0_stg3_0 ↦{fullShare} f)) := fun _ => by
    unfold factors wordsPts outPts
    iintro ⟨HΦ, HO, ⟨H0, H1⟩, H2, H3⟩
    isplitl [HΦ]; · iexact HΦ
    isplitl [HO]; · iapply (owesAt_into m c t0_0.succ 0 rfl); iexact HO
    isplitl [H0]
    · iexists (stA m c); isplitr; · ipureintro; rfl
      iexact H0
    isplitl [H1]
    · iexists (stB m c); isplitr; · ipureintro; rfl
      iexact H1
    isplitl [H2]
    · iexists (stW m c); isplitr; · ipureintro; rfl
      iexact H2
    · iexists (outC m c); isplitr; · ipureintro; rfl
      iexact H3
  iapply (wp_mono _ _ _ hm)
  iapply (body_run m c f3)
  unfold factors wordsPts outPts
  isplitl [HΦ]; · iexact HΦ
  isplitl [HO]; · iexact HO
  isplitl [H0 H1]
  · isplitl [H0]; · iexact H0
    iexact H1
  isplitl [H2]; · iexact H2
  iexact H3

end Cert.Proof

end
-- ==== Proof.Seg.lean ====
/-
  The kernel call as one item of the program: from the buffers before it to the buffers after it.
-/
module

public import proofs.«01_k».proof.Proof.Region

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

def pdats : (p : Fin 1) → (c : Dev nD) → Dat τ (Elt F) ℕ ℕ UU ℕ (Pipeline.pin (pcfgs (F := F)) adm p) c
  | 0 => dat m

/-- What a device holds for the call, from the launch on. -/
def ready (c : Dev nD) : sProp 𝕄 :=
  iprop(∃ κ : GSem nD τ sig → ℕ, (bigSep allCells fun g => cellInv ER (talkRd (cts m)) (κ g) g) ∗ barStart c
    ∗ (bigSep Finset.univ fun k => openTok ER ((c : Thread nD τ), osem k)) ∗ hops 0 c ∗ hops 1 c)
/-- What it keeps after it. -/
def spent (c : Dev nD) : sProp 𝕄 := semVal (barCell c) 0

theorem open_ready (c : Dev nD) : iprop(ready m c ∗ Pipeline.ownSems0 osem c ∗ levAts Lx lvx) ⊢ (|={Set.univ}=> entry m c : sProp 𝕄) := by
  unfold ready entry
  iintro ⟨⟨%κ, #HI, HB, Ho, H0, H1⟩, Hs, #Hl⟩
  imod (cells_opened (cts m) κ c) $$ [Ho Hs] with HP
  · unfold records
    isplitr
    · isplitr; · iexact HI
      iexact Hl
    isplitl [Ho] <;> iassumption
  imodintro
  iexists κ
  unfold records
  isplitr
  · isplitr; · iexact HI
    iexact Hl
  isplitl [HB]; · iexact HB
  isplitl [HP]; · iexact HP
  isplitl [H0] <;> iassumption

theorem bufs_rest (c : Dev nD) : (Pipeline.scopedRest (Ix := ℕ) (Name := ℕ) (U := UU) (Lvl := ℕ) (Val := Elt F) spec0 c : sProp 𝕄)
    = iprop(bufAny 0 c ∗ bufAny 1 c) := scopedRest0_eq c

theorem held_none (c : Dev nD) (V : Valuation τ sig (Elt F)) : (StableHlo.held (c : Thread nD τ) ∅ V : sProp 𝕄) = iprop(emp) := by
  unfold StableHlo.held; exact bigSep_empty

theorem into_phi (c : Dev nD) (V : Valuation τ sig (Elt F)) :
    iprop(Pipeline.scopedRest spec0 c ∗ (∃ r, prngReg c r) ∗ StableHlo.held (c : Thread nD τ) ∅ V ∗ entry m c) ⊢ (phi0 m c : sProp 𝕄) := by
  rw [bufs_rest]
  unfold phi0
  iintro ⟨Hb, Hr, -, He⟩
  isplitl [He]; · iexact He
  isplitl [Hb] <;> iassumption

theorem out_phi (c : Dev nD) (V : Valuation τ sig (Elt F)) :
    (phi1 c : sProp 𝕄) ⊢ iprop(Pipeline.scopedRest spec0 c ∗ (∃ r, prngReg c r) ∗ StableHlo.held (c : Thread nD τ) ∅ V ∗ Pipeline.ownSems0 osem c ∗ spent c) := by
  rw [bufs_rest, held_none]
  unfold phi1 spent
  iintro ⟨⟨Hb0, Ho⟩, Hb, Hr⟩
  isplitl [Hb]; · iexact Hb
  isplitl [Hr]; · iexact Hr
  isplitr; · iempintro
  isplitl [Ho] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the call neither reads nor writes. -/
abbrev others : Finset (DevRef τ sig) := Pipeline.ucRefs τ sig \ Pipeline.arrRefs spec0

theorem arr_sub : Pipeline.arrRefs (τ := τ) spec0 ⊆ Pipeline.ucRefs τ sig :=
  Pipeline.arrRefs_sub_ucRefs spec0 (by decide)

theorem others_same (c : Dev nD) : ∀ b ∈ others \ ∅, V6 m (outs m) c b = V5 m c b := fun b hb => by
  refine Function.update_of_ne (fun e => ?_) _ _
  subst e
  refine (Finset.mem_sdiff.mp (Finset.mem_sdiff.mp hb).1).2 ?_
  exact Finset.mem_map.mpr ⟨main_v28, Finset.mem_image.mpr ⟨3, Finset.mem_univ _, rfl⟩, rfl⟩

theorem arr_before (c : Dev nD) (w : Fin 4) : (dat m c).arrAt w 0 = V5 m c (Proc.devRef .tc (Pipeline.arrRef spec0 w)) := rfl

theorem arr_after (c : Dev nD) : ∀ w : Fin 4, (dat m c).arrAt w cfg0.N = V6 m (outs m) c (Proc.devRef .tc (Pipeline.arrRef spec0 w))
  | 0 => (arr_in m c 0 (by decide) _).trans (V6_of m (outs m) c main_arg0 (by decide)).symm
  | 1 => (arr_in m c 1 (by decide) _).trans (V6_of m (outs m) c main_arg1 (by decide)).symm
  | 2 => (arr_in m c 2 (by decide) _).trans (V6_of m (outs m) c main_v27 (by decide)).symm
  | 3 => (arr_out m c).trans ((outs_eq m c).symm.trans (show V6 m (outs m) c main_v28 = outs m 6 main_v28 c from Function.update_self ..).symm)

theorem after0_due (c : Dev nD) : After 0 (due0 c) :=
  (after_dueFrom 0 0 0 0 c _ (by decide) (by decide) (after_dueFrom 1 0 0 0 c _ (by decide) (by decide) (After.zero 0))).add
    (After.tally _ _ _ _ (by decide) (by decide))

theorem cut (c : Dev nD) (t : Fin (cfg0.N + 1)) (g : GSem nD τ sig) (i : ℕ) (h : 0 < (dat m c).owed t g i) : i ∈ Lx g ∧ 0 < lvx g i := by
  have h' : 0 < (if t.val = 0 then due0 c else 0 : CellTallies nD τ sig ℕ) g i := h
  split at h'
  · exact after0_due c g i h'
  · exact absurd h' (Nat.lt_irrefl 0)

set_option backward.isDefEq.respectTransparency.types false in
/-- The call as an item. -/
def reg : Pipeline.RegionSeg (pcfgs (F := F)) adm (pdats m) 0 defs₀ 𝒱₀ Lx lvx 0 :=
  Pipeline.RegionSeg.ofTalk (pcfgs (F := F)) adm (pdats m) 0 defs₀ 𝒱₀ Lx lvx 0 osem osem_facts
    ∅ others (Finset.empty_subset _) kit rfl (fun c => (body_ob m c).loose)
    (fun _ => 0) due0 (fun c => (zero_add (due0 c)).symm) (fun c => rfl) (fun _ => rfl)
    (fun c w => (dat m c).share_full (fun _ => rfl) w)
    (V5 m) (V6 m (outs m)) (others_same m)
    (ready m) spent (entry m) spent (open_ready m) (fun c => into_phi m c (V5 m c)) (fun c => out_phi c (V6 m (outs m) c))
    (fun c => by iintro H; imodintro; iexact H)
    (fun _ => 0)
    ⟨fun c w s => SiteBlocks.mem_L c _ (by decide), fun c w s => Nat.le_refl 0, fun c t g i h => cut m c t g i h⟩
    (fun _ => iprop(emp))
    (arr_before m) (arr_after m)

theorem reg_pre (c : Dev nD) :
    iprop(StableHlo.held (c : Thread nD τ) (Pipeline.ucRefs τ sig) (V5 m c) ∗ (ready m c ∗ (∃ r, prngReg c r) ∗ owesAny c (due0 c))) ⊢ (reg m).pre c := by
  show _ ⊢ iprop(StableHlo.held (c : Thread nD τ) (Pipeline.arrRefs (τ := τ) spec0) (V5 m c) ∗ (∃ r, prngReg c r)
    ∗ (StableHlo.held (c : Thread nD τ) others (V5 m c) ∗ emp) ∗ ready m c ∗ ∃ Wd, owes (c : Thread nD τ) (0 + due0 c) Wd)
  rw [StableHlo.held_sub_split (c : Thread nD τ) arr_sub (V5 m c), zero_add]
  unfold owesAny
  iintro ⟨⟨Ha, Ho⟩, HR, Hp, HO⟩
  isplitl [Ha]; · iexact Ha
  isplitl [Hp]; · iexact Hp
  isplitl [Ho]
  · isplitl [Ho]; · iexact Ho
    iempintro
  isplitl [HR] <;> iassumption

theorem reg_post (c : Dev nD) :
    (reg m).post c ⊢ iprop(StableHlo.held (c : Thread nD τ) (Pipeline.ucRefs τ sig) (V6 m (outs m) c) ∗ spent c ∗ owesAny c 0) := by
  show iprop(StableHlo.held (c : Thread nD τ) (Pipeline.arrRefs (τ := τ) spec0) (V6 m (outs m) c) ∗ (∃ r, prngReg c r)
    ∗ (StableHlo.held (c : Thread nD τ) others (V6 m (outs m) c) ∗ emp) ∗ spent c ∗ ∃ Wd, owes (c : Thread nD τ) 0 Wd) ⊢ _
  rw [StableHlo.held_sub_split (c : Thread nD τ) arr_sub (V6 m (outs m) c)]
  unfold owesAny
  iintro ⟨Ha, -, ⟨Ho, -⟩, HS, HO⟩
  isplitl [Ha Ho]
  · isplitl [Ha] <;> iassumption
  isplitl [HS] <;> iassumption

end Cert.Proof

end
-- ==== Proof.Tokens.lean ====
/-
  The permissions and the promises of the run, as they stand at the launch, dealt out to the devices.
-/
module

public import proofs.«01_k».proof.Proof.Seg

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### The permissions -/

/-- One device's permissions: the handshake, the sends, the arrivals, the freed slots. -/
abbrev Tk := Unit ⊕ (Fin 2 × Fin 31) ⊕ (Fin 2 × Fin 31) ⊕ (Fin 2 × Fin 30)

/-- The semaphore of a permission. -/
def tsem : Tk → SemLoc sig
  | .inl _ => .reg bsem
  | .inr (.inl x) => .dma (semM (ssem x.1) x.2.val)
  | .inr (.inr (.inl x)) => .dma (semM (rsem x.1) (x.2.val + 1))
  | .inr (.inr (.inr x)) => .reg (csem x.1).sem
/-- Its round. -/
def trd : Tk → ℕ
  | .inl _ => 0
  | .inr (.inl x) => x.2.val / 2
  | .inr (.inr (.inl x)) => x.2.val / 2
  | .inr (.inr (.inr x)) => x.2.val
/-- What its semaphore is for. -/
def tkd : Tk → Kd
  | .inl _ => .bar
  | .inr (.inl x) => .snd x.1 (par x.2.val)
  | .inr (.inr (.inl x)) => .rcv x.1 (par (x.2.val + 1))
  | .inr (.inr (.inr x)) => .crd x.1

theorem kind_tsem : ∀ i : Tk, kind (tsem i) = some (tkd i)
  | .inl _ => kind_bar
  | .inr (.inl x) => kind_send _ _
  | .inr (.inr (.inl x)) => kind_recv _ _
  | .inr (.inr (.inr x)) => kind_credit _

theorem par_half {a b : ℕ} (h : par a = par b) (h' : a / 2 = b / 2) : a = b := by
  have := congrArg Fin.val h
  unfold par at this
  dsimp only at this
  omega
theorem par_half' {a b : ℕ} (h : par (a + 1) = par (b + 1)) (h' : a / 2 = b / 2) : a = b := by
  have := congrArg Fin.val h
  unfold par at this
  dsimp only at this
  omega

theorem tkd_inj : ∀ i j : Tk, tkd i = tkd j → trd i = trd j → i = j
  | .inl _, .inl _, _, _ => rfl
  | .inr (.inl (q, k)), .inr (.inl (q', k')), h, h' => by
    injection h with h1 h2
    dsimp only at h1 h2
    subst h1
    rw [Fin.ext (par_half h2 h')]
  | .inr (.inr (.inl (q, k))), .inr (.inr (.inl (q', k'))), h, h' => by
    injection h with h1 h2
    dsimp only at h1 h2
    subst h1
    rw [Fin.ext (par_half' h2 h')]
  | .inr (.inr (.inr (q, k))), .inr (.inr (.inr (q', k'))), h, h' => by
    injection h with h1
    dsimp only at h1
    subst h1
    rw [Fin.ext (show k.val = k'.val from h')]
  | .inl _, .inr (.inl _), h, _ => by cases h
  | .inl _, .inr (.inr (.inl _)), h, _ => by cases h
  | .inl _, .inr (.inr (.inr _)), h, _ => by cases h
  | .inr (.inl _), .inl _, h, _ => by cases h
  | .inr (.inl _), .inr (.inr (.inl _)), h, _ => by cases h
  | .inr (.inl _), .inr (.inr (.inr _)), h, _ => by cases h
  | .inr (.inr (.inl _)), .inl _, h, _ => by cases h
  | .inr (.inr (.inl _)), .inr (.inl _), h, _ => by cases h
  | .inr (.inr (.inl _)), .inr (.inr (.inr _)), h, _ => by cases h
  | .inr (.inr (.inr _)), .inl _, h, _ => by cases h
  | .inr (.inr (.inr _)), .inr (.inl _), h, _ => by cases h
  | .inr (.inr (.inr _)), .inr (.inr (.inl _)), h, _ => by cases h

theorem tok_inj (i j : Tk) (h : tsem i = tsem j) (h' : trd i = trd j) : i = j :=
  tkd_inj i j (Option.some.inj ((kind_tsem i).symm.trans ((congrArg kind h).trans (kind_tsem j)))) h'

def tokEmb : Dev nD × Tk ↪ GSem nD τ sig × ℕ × Unit :=
  ⟨fun x => (((x.1 : Thread nD τ), tsem x.2), trd x.2, ()), fun x y h =>
    Prod.ext (congrArg (fun t : GSem nD τ sig × ℕ × Unit => t.1.1.1) h)
      (tok_inj _ _ (congrArg (fun t : GSem nD τ sig × ℕ × Unit => t.1.2) h) (congrArg (fun t : GSem nD τ sig × ℕ × Unit => t.2.1) h))⟩

/-- All permissions of the run. -/
def talkToks : Finset (GSem nD τ sig × ℕ × Unit) := Finset.univ.map tokEmb

theorem bigSep_upto (n : ℕ) (Φ : ℕ → sProp 𝕄) :
    bigSep (Finset.univ : Finset (Fin n)) (fun i => Φ i.val) = bigSep (Finset.Ico 0 n) Φ := by
  rw [← Finset.range_eq_Ico, ← Nat.Iio_eq_range, ← Fin.map_valEmbedding_univ, BI.bigSep_map]; rfl

theorem bigSep_phases (n : ℕ) (Φ : Fin 2 → ℕ → sProp 𝕄) :
    bigSep (Finset.univ : Finset (Fin 2 × Fin n)) (fun x => Φ x.1 x.2.val)
      = iprop(bigSep (Finset.Ico 0 n) (Φ 0) ∗ bigSep (Finset.Ico 0 n) (Φ 1)) := by
  rw [bigSep_univ_prod, BI.bigSep_fin_two, bigSep_upto n (Φ 0), bigSep_upto n (Φ 1)]; rfl

def sTok (q : Fin 2) (c : Dev nD) (k : ℕ) : sProp 𝕄 := dutyTok ER (sendCell q k c) (k / 2) ()
def vTok (q : Fin 2) (c : Dev nD) (k : ℕ) : sProp 𝕄 := dutyTok ER (recvCell q (k + 1) c) (k / 2) ()
def cTok (q : Fin 2) (c : Dev nD) (k : ℕ) : sProp 𝕄 := dutyTok ER (creditCell q c) k ()

/-- The permissions to act on a device's own semaphores. -/
def toks (c : Dev nD) : sProp 𝕄 :=
  iprop(dutyTok ER (barCell c) 0 ()
    ∗ (bigSep (Finset.Ico 0 31) (sTok 0 c) ∗ bigSep (Finset.Ico 0 31) (sTok 1 c))
    ∗ (bigSep (Finset.Ico 0 31) (vTok 0 c) ∗ bigSep (Finset.Ico 0 31) (vTok 1 c))
    ∗ (bigSep (Finset.Ico 0 30) (cTok 0 c) ∗ bigSep (Finset.Ico 0 30) (cTok 1 c)))

/-- The permissions a device needs for its own actions. -/
def grants (c : Dev nD) : sProp 𝕄 :=
  iprop(dutyTok ER (barCell (lft c)) 0 ()
    ∗ (bigSep (Finset.Ico 0 31) (sTok 0 c) ∗ bigSep (Finset.Ico 0 31) (sTok 1 c))
    ∗ (bigSep (Finset.Ico 0 31) (vTok 0 (rgt c)) ∗ bigSep (Finset.Ico 0 31) (vTok 1 (rgt c)))
    ∗ (bigSep (Finset.Ico 0 30) (cTok 0 (lft c)) ∗ bigSep (Finset.Ico 0 30) (cTok 1 (lft c))))

theorem toks_eq : bigSep talkToks (fun x => (dutyTok ER x.1 x.2.1 x.2.2 : sProp 𝕄)) = bigSep Finset.univ fun c : Dev nD => toks c := by
  unfold talkToks
  rw [bigSep_map, bigSep_univ_prod]
  refine bigSep_congr fun c _ => ?_
  rw [bigSep_univ_sum, bigSep_univ_sum, bigSep_univ_sum]
  unfold toks
  rw [← bigSep_phases 31 (fun q => sTok q c), ← bigSep_phases 31 (fun q => vTok q c), ← bigSep_phases 30 (fun q => cTok q c)]
  rw [show (Finset.univ : Finset Unit) = {()} from rfl, BI.bigSep_singleton]
  rfl

/-- The permissions on a neighbour's semaphores go to the device that acts on them. -/
theorem toks_around : (bigSep Finset.univ fun c : Dev nD => (toks c : sProp 𝕄)) = bigSep Finset.univ fun c : Dev nD => grants c := by
  unfold toks grants
  simp only [bigSep_sep']
  rw [bigSep_univ_equiv stepL (fun c : Dev nD => (dutyTok ER (barCell c) 0 () : sProp 𝕄)),
    bigSep_univ_equiv stepR (fun c : Dev nD => (bigSep (Finset.Ico 0 31) (vTok 0 c) : sProp 𝕄)),
    bigSep_univ_equiv stepR (fun c : Dev nD => (bigSep (Finset.Ico 0 31) (vTok 1 c) : sProp 𝕄)),
    bigSep_univ_equiv stepL (fun c : Dev nD => (bigSep (Finset.Ico 0 30) (cTok 0 c) : sProp 𝕄)),
    bigSep_univ_equiv stepL (fun c : Dev nD => (bigSep (Finset.Ico 0 30) (cTok 1 c) : sProp 𝕄))]
  rfl

/-! ### The promises -/

/-- What the others promise to a device's semaphores, of one phase. -/
def dueTo (q : Fin 2) (c : Dev nD) : CellTallies nD τ sig ℕ :=
  (∑ k ∈ Finset.Ico 0 31, tallyAt (recvCell q (k + 1) c) (ixR q k) Nc) + (∑ k ∈ Finset.Ico 0 30, tallyAt (creditCell q c) (ixC q k) 1)
/-- What the others promise to a device's semaphores. -/
def dueAt (c : Dev nD) : CellTallies nD τ sig ℕ := dueTo 0 c + dueTo 1 c + tallyAt (barCell c) 1 1

theorem due_sum (q : Fin 2) : (∑ c : Dev nD, dueFrom q 0 0 c 0) = ∑ c : Dev nD, dueTo q c := by
  unfold dueFrom dueTo
  simp only [add_zero, Finset.sum_add_distrib]
  rw [← Equiv.sum_comp stepR (fun c : Dev nD => ∑ k ∈ Finset.Ico 0 31, (tallyAt (recvCell q (k + 1) c) (ixR q k) Nc : CellTallies nD τ sig ℕ)),
    ← Equiv.sum_comp stepL (fun c : Dev nD => ∑ k ∈ Finset.Ico 0 30, (tallyAt (creditCell q c) (ixC q k) 1 : CellTallies nD τ sig ℕ))]
  rfl

theorem dueFrom_split (c : Dev nD) (D : CellTallies nD τ sig ℕ) : dueFrom 0 0 0 c D = dueFrom 0 0 0 c 0 + D := by
  unfold dueFrom; rw [add_zero]

theorem due_all : (∑ c : Dev nD, due0 c) = ∑ c : Dev nD, dueAt c := by
  unfold due0 dueAt
  rw [Finset.sum_add_distrib, Finset.sum_add_distrib, Finset.sum_add_distrib, ← due_sum, ← due_sum]
  rw [Finset.sum_congr rfl fun c _ => dueFrom_split c _, Finset.sum_add_distrib,
    ← Equiv.sum_comp stepL (fun c : Dev nD => (tallyAt (barCell c) 1 1 : CellTallies nD τ sig ℕ))]
  rfl

theorem tally_off {g₀ g : GSem nD τ sig} {i n : ℕ} (h : g.1 ≠ g₀.1) : (tallyAt g₀ i n : CellTallies nD τ sig ℕ) g = 0 :=
  tallyAt_ne_cell (fun e => h (congrArg Prod.fst e)) _ _

theorem dueTo_off (q : Fin 2) (c : Dev nD) {g : GSem nD τ sig} (h : g.1 ≠ (c : Thread nD τ)) : dueTo q c g = 0 := by
  unfold dueTo
  rw [Pi.add_apply, Finset.sum_apply, Finset.sum_apply, Finset.sum_eq_zero fun k _ => tally_off h, Finset.sum_eq_zero fun k _ => tally_off h, add_zero]

theorem dueAt_own (c : Dev nD) (g : GSem nD τ sig) (h : dueAt c g ≠ 0) : g.1 = (c.tc : Thread nD τ) := by
  by_contra hne
  refine h ?_
  unfold dueAt
  rw [Pi.add_apply, Pi.add_apply, dueTo_off 0 c hne, dueTo_off 1 c hne, tally_off hne, add_zero, add_zero]

theorem cred_plus (a b : CellTallies nD τ sig ℕ) : (cred (a + b) : sProp 𝕄) = iprop(cred a ∗ cred b) :=
  BI.Entails.antisymm (cred_add _ _).1 (cred_add _ _).2

theorem cred_over (s : Finset ℕ) (f : ℕ → CellTallies nD τ sig ℕ) : (cred (∑ k ∈ s, f k) : sProp 𝕄) = bigSep s fun k => cred (f k) := by
  induction s using Finset.induction_on with
  | empty => rw [Finset.sum_empty, cred_zero, bigSep_empty]; rfl
  | insert a s ha ih => rw [Finset.sum_insert ha, bigSep_insert ha, cred_plus, ih]; rfl

/-- What a device may wait for, of one phase. -/
def awaits (q : Fin 2) (c : Dev nD) : sProp 𝕄 :=
  iprop((bigSep (Finset.Ico 0 31) fun k => cred (tallyAt (recvCell q (k + 1) c) (ixR q k) Nc))
    ∗ bigSep (Finset.Ico 0 30) fun k => cred (tallyAt (creditCell q c) (ixC q k) 1))

theorem creds (c : Dev nD) :
    (Pipeline.launchCred due0 c : sProp 𝕄) = iprop((awaits 0 c ∗ awaits 1 c) ∗ cred (tallyAt (barCell c) 1 1)) := by
  rw [Pipeline.launchCred_of_sum due0 dueAt due_all dueAt_own c]
  unfold dueAt dueTo awaits
  rw [cred_plus, cred_plus, cred_plus, cred_plus, cred_over, cred_over, cred_over, cred_over]

/-! ### One device's part -/

theorem hops_intro (q : Fin 2) (c : Dev nD) :
    iprop(bigSep (Finset.Ico 0 31) (sTok q c) ∗ bigSep (Finset.Ico 0 31) (vTok q (rgt c)) ∗ bigSep (Finset.Ico 0 30) (cTok q (lft c)) ∗ awaits q c)
      ⊢ (hops q c : sProp 𝕄) := by
  have h1 : bigSep (Finset.Ico 0 31) (hopR q c) = (iprop(bigSep (Finset.Ico 0 31) (sTok q c) ∗ bigSep (Finset.Ico 0 31) (vTok q (rgt c))
      ∗ bigSep (Finset.Ico 0 31) fun k => cred (tallyAt (recvCell q (k + 1) c) (ixR q k) Nc)) : sProp 𝕄) := by
    rw [← bigSep_sep', ← bigSep_sep']; rfl
  have h2 : bigSep (Finset.Ico 0 30) (hopC q c) = (iprop(bigSep (Finset.Ico 0 30) (cTok q (lft c))
      ∗ bigSep (Finset.Ico 0 30) fun k => cred (tallyAt (creditCell q c) (ixC q k) 1)) : sProp 𝕄) := by
    rw [← bigSep_sep']; rfl
  unfold hops awaits
  rw [h1, h2]
  iintro ⟨HS, HV, HC, HaV, HaC⟩
  isplitl [HS HV HaV]
  · isplitl [HS]; · iexact HS
    isplitl [HV] <;> iassumption
  · isplitl [HC] <;> iassumption

end Cert.Proof

end
-- ==== Proof.Launch.lean ====
/-
  The whole program's run: from any memory every device ends with its operands as they were, the result that the
  ring leaves it, and every semaphore at zero.
-/
module

public import proofs.«01_k».proof.Proof.Tokens

@[expose] public section

noncomputable section

namespace Cert.Proof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The element the run starts from. -/
def seed : UU :=
  (initOf (Pipeline.cells (Pipeline.pin (pcfgs (F := F)) adm) cellOf_inj) (Pipeline.launchToks (Pipeline.pin (pcfgs (F := F)) adm) cellOf_inj),
    launchOf barCells scCells talkToks)

/-- The protocol's share of it, held by device 0 until it is dealt out. -/
def parked (c : Dev nD) : sProp 𝕄 := if c = 0 then BI.own (ER (launchOf barCells scCells talkToks)) else iprop(emp)

theorem parked_all : (bigSep Finset.univ parked : sProp 𝕄) = BI.own (ER (launchOf barCells scCells talkToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem seed_split : (ownU (seed (F := F)) : sProp 𝕄)
    ⊢ |={Set.univ}=> iprop(BI.own (EP (F := F) (initOf (Pipeline.cells (Pipeline.pin (pcfgs (F := F)) adm) cellOf_inj)
        (Pipeline.launchToks (Pipeline.pin (pcfgs (F := F)) adm) cellOf_inj))) ∗ bigSep Finset.univ parked) := by
  unfold seed
  iintro Hu
  ihave H := (ownU_pair _ _) $$ Hu
  icases H with ⟨HP, HX⟩
  imodintro
  isplitl [HP]; · iexact HP
  rw [parked_all]; iexact HX

theorem sems_one (c : Dev nD) : (unscopedSems0 c : sProp 𝕄) = semVal (barCell c) 0 := by
  unfold unscopedSems0
  rw [show (Finset.univ.filter fun sm : SemLoc sig => ¬ sm.isScoped .tc) = {SemLoc.reg bsem} from by decide, BI.bigSep_singleton]

/-- What all devices know. -/
def known (κ : GSem nD τ sig → ℕ) : sProp 𝕄 :=
  iprop((bigSep allCells fun g => cellInv ER (talkRd (cts m)) (κ g) g) ∗ bigSep barCells fun g => reached ER g 0)

instance known_persistent (κ : GSem nD τ sig → ℕ) : BI.Persistent (known m κ) := by unfold known; infer_instance

theorem known_reached (κ : GSem nD τ sig → ℕ) (c : Dev nD) : (known m κ : sProp 𝕄) ⊢ reached ER (barCell c) 0 := by
  have h : (bigSep barCells fun g => (reached ER g 0 : sProp 𝕄)) ⊢ reached ER (barCell c) 0 :=
    bigSep_elim (Finset.mem_map_of_mem barEmb (Finset.mem_univ c))
  unfold known
  iintro ⟨-, H⟩
  iapply h $$ H

/-- A device's own share. -/
def mine (c : Dev nD) : sProp 𝕄 :=
  iprop(atPos ER (barCell c) 0 ∅ 0 ∗ (bigSep Finset.univ fun k => openTok ER ((c : Thread nD τ), osem k)) ∗ grants c
    ∗ ((awaits 0 c ∗ awaits 1 c) ∗ cred (tallyAt (barCell c) 1 1)))
/-- And what it brings along. -/
def along (ρ : Dev nD → PrngReg) (c : Dev nD) : sProp 𝕄 := iprop(prngReg c (ρ c) ∗ owes (c : Thread nD τ) (due0 c) ∅)

/-- What a device has before the call and after it, beside its buffers. -/
def beside : Fin 2 → Dev nD → sProp 𝕄
  | 0, c => iprop(ready m c ∗ (∃ r, prngReg c r) ∗ owesAny c (due0 c))
  | 1, c => iprop(spent c ∗ owesAny c 0)

theorem beside_intro (κ : GSem nD τ sig → ℕ) (c : Dev nD) :
    iprop(known m κ ∗ (mine c ∗ along ρ c)) ⊢ (beside m 0 c : sProp 𝕄) := by
  unfold mine along beside ready grants barStart owesAny
  iintro ⟨#HK, ⟨Hat, Ho, ⟨HtB, ⟨HS0, HS1⟩, ⟨HV0, HV1⟩, HC0, HC1⟩, ⟨⟨HA0, HA1⟩, HcB⟩⟩, Hp, HO⟩
  isplitr [Hp HO]
  · iexists κ
    isplitr
    · unfold known
      icases HK with ⟨HI, -⟩
      iexact HI
    isplitl [Hat HtB HcB]
    · isplitl [Hat]
      · unfold place
        isplitl [Hat]; · iexact Hat
        iapply (known_reached m κ c); iexact HK
      isplitl [HtB]; · iexact HtB
      isplitr
      · iapply (known_reached m κ (lft c)); iexact HK
      iexact HcB
    isplitl [Ho]; · iexact Ho
    isplitl [HS0 HV0 HC0 HA0]
    · iapply (hops_intro 0 c)
      isplitl [HS0]; · iexact HS0
      isplitl [HV0]; · iexact HV0
      isplitl [HC0] <;> iassumption
    · iapply (hops_intro 1 c)
      isplitl [HS1]; · iexact HS1
      isplitl [HV1]; · iexact HV1
      isplitl [HC1] <;> iassumption
  isplitl [Hp]
  · iexists (ρ c); iexact Hp
  · iexists ∅; iexact HO

theorem apart (A B : Dev nD → sProp 𝕄) :
    (bigSep Finset.univ fun c => iprop(A c ∗ B c)) ⊢ iprop(bigSep Finset.univ A ∗ bigSep Finset.univ B) := Entails.of_eq (bigSep_sep' _ _ _)
theorem together (A B : Dev nD → sProp 𝕄) :
    iprop(bigSep Finset.univ A ∗ bigSep Finset.univ B) ⊢ bigSep Finset.univ fun c => iprop(A c ∗ B c) := Entails.of_eq (bigSep_sep' _ _ _).symm

/-- The launch, dealt out. -/
theorem dealt :
    iprop((bigSep Finset.univ fun c : Dev nD => iprop(unscopedSems0 c ∗ owes (c : Thread nD τ) (due0 c) ∅
        ∗ Pipeline.launchCred due0 c ∗ prngReg c (ρ c) ∗ parked c)) ∗ levAts Lx lvx)
      ⊢ (|={Set.univ}=> bigSep Finset.univ (beside m 0) : sProp 𝕄) := by
  have hcore (c : Dev nD) : iprop(unscopedSems0 c ∗ owes (c : Thread nD τ) (due0 c) ∅ ∗ Pipeline.launchCred due0 c ∗ prngReg c (ρ c) ∗ parked c)
      ⊢ (iprop(semVal (barCell c) 0 ∗ parked c ∗ ((awaits 0 c ∗ awaits 1 c) ∗ cred (tallyAt (barCell c) 1 1)) ∗ along ρ c) : sProp 𝕄) := by
    rw [sems_one, creds]
    unfold along
    iintro ⟨Hs, HO, Hcr, Hp, HG⟩
    isplitl [Hs]; · iexact Hs
    isplitl [HG]; · iexact HG
    isplitl [Hcr]; · iexact Hcr
    isplitl [Hp] <;> iassumption
  have hall : (bigSep Finset.univ fun c : Dev nD => iprop(unscopedSems0 c ∗ owes (c : Thread nD τ) (due0 c) ∅ ∗ Pipeline.launchCred due0 c
        ∗ prngReg c (ρ c) ∗ parked c)) ⊢ (bigSep Finset.univ fun c : Dev nD => iprop(semVal (barCell c) 0 ∗ parked c
        ∗ ((awaits 0 c ∗ awaits 1 c) ∗ cred (tallyAt (barCell c) 1 1)) ∗ along ρ c) : sProp 𝕄) := bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k => (openTok ER ((c : Thread nD τ), osem k) : sProp 𝕄)) :=
    Entails.of_eq (by unfold scCells; rw [bigSep_map, bigSep_univ_prod]; rfl)
  iintro ⟨H, -⟩
  ihave H' := hall $$ H
  ihave H2 := (apart _ _) $$ H'; icases H2 with ⟨Hv, H3⟩
  ihave H4 := (apart _ _) $$ H3; icases H4 with ⟨HG, H5⟩
  ihave H6 := (apart _ _) $$ H5; icases H6 with ⟨Hcr, Hal⟩
  ihave Hu := (Entails.of_eq (parked_all (F := F))) $$ HG
  imod (Rounds.fund_launch ER (talkRd (cts m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(mine c ∗ along ρ c)) fun c _ => beside_intro m ρ κ c)
  isplitr
  · unfold known allCells
    isplitr; · iexact Hinv
    iexact Hr
  iapply (together _ _)
  isplitr [Hal]
  · unfold mine
    iapply (together _ _); isplitl [Hat]; · iapply hat $$ Hat
    iapply (together _ _); isplitl [Hopen]; · iapply hopen $$ Hopen
    iapply (together _ _); isplitl [Htok]
    · iapply (Entails.of_eq (toks_around (F := F)))
      iapply (Entails.of_eq (toks_eq (F := F))) $$ Htok
    · iexact Hcr
  · iexact Hal

theorem unscoped_eq : ∀ sm : SemLoc sig, sm.isScoped .tc = false → sm = .reg bsem := by decide

theorem V6_main_v28 (c : Dev nD) : V6 m (outs m) c main_v28 = outC m c :=
  (show V6 m (outs m) c main_v28 = outs m 6 main_v28 c from Function.update_self ..).trans (outs_eq m c)

/-- What is read off a device at the end. -/
def seen (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v28) = outC m c)
  ∧ s.sem (barCell c) = 0

theorem uc_mem (b : Ref sig .tc) (h : b.isScoped = false) : Proc.devRef .tc b ∈ Pipeline.ucRefs τ sig :=
  Finset.mem_filter.mpr ⟨StableHlo.devRef_mem_tcRefs b, by simpa using h⟩

set_option backward.isDefEq.respectTransparency.types false in
/-- The run of the whole program. -/
theorem run_main :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v28) = outC m c)
      ∧ r.2.sem = fun _ => 0) := by
  refine Pipeline.θ_run_regions_kit_dev_sems (pcfgs (F := F)) adm (pdats m) 0 cellOf_inj EP defs₀ 𝒱₀ Lx lvx m ρ main
    (segs m 𝒱₀ Lx lvx (beside m) 0 (pdats m) (reg m))
    (fun c Q => by
      rewrite [main_chain c, Pipeline.Seg.run_eq_chain,
        show (segs m 𝒱₀ Lx lvx (beside m) 0 (pdats m) (reg m) c).map Pipeline.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) due0 (SiteBlocks.hL 200) parked seed seed_split
    (T₀ := fun c => iprop(StableHlo.held (c : Thread nD τ) (Pipeline.ucRefs τ sig) (V0 m c) ∗ beside m 0 c))
    (Tₙ := fun c => iprop(StableHlo.held (c : Thread nD τ) (Pipeline.ucRefs τ sig) (V6 m (outs m) c) ∗ spent c))
    (hch := fun c => ⟨.rfl, .rfl, .rfl, .rfl, .rfl, reg_pre m c, (reg_post m c).trans ?_⟩)
    (hinit := ?_) (QY := seen m)
    (hfin := fun c s' => ?_) (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V6 m (outs m) c) ∗ spent c ∗ owesAny c 0) ⊢ _
    unfold owesAny
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (due0 c) ∅ ∗ Pipeline.launchCred due0 c ∗ prngReg c (ρ c) ∗ parked c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (due0 c) ∅ ∗ Pipeline.launchCred due0 c ∗ prngReg c (ρ c) ∗ parked c))
            : sProp 𝕄) := by
      rw [← bigSep_sep']
      exact bigSep_mono fun c _ => by
        rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (dealt m ρ) $$ [Hr Hla] with HE
    · isplitl [Hr]; · iexact Hr
      iexact Hla
    imodintro
    rw [bigSep_sep']
    isplitl [Hh]; · iexact Hh
    iexact HE
  · unfold StableHlo.held spent
    iintro ⟨⟨Hh, Hb⟩, HSI⟩
    icombine HSI Hb gives %hb
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact ⟨⟨(h (Proc.devRef .tc main_arg0) (uc_mem main_arg0 (by decide))).trans (V6_main_arg0 m (outs m) c),
        (h (Proc.devRef .tc main_arg1) (uc_mem main_arg1 (by decide))).trans (V6_main_arg1 m (outs m) c),
        (h (Proc.devRef .tc main_v28) (uc_mem main_v28 (by decide))).trans (V6_main_v28 m c)⟩, by simpa using hb⟩
    · iexact HSI

end Cert.Proof

end
-- ==== Proof.Same.lean ====
/-
  The two readings of the program have the same text.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.ShloMosaic.TcCoe Idealize.SL.Sem

variable {F : FTy → Type} [FloatOps F]

set_option maxHeartbeats 0 in
theorem body_same : Cert.Kernel.cc0_body (F := F) = Cert.KernelIdeal.cc0_body (F := F) := rfl

set_option maxHeartbeats 0 in
theorem table_same : Cert.Kernel.defs₀ (F := F) = Cert.KernelIdeal.defs₀ (F := F) := by
  unfold Cert.Kernel.defs₀ Cert.KernelIdeal.defs₀
  refine congrArg Defs.onTc (funext fun l => funext fun x => ?_)
  obtain ⟨_ | n, h⟩ := l
  · obtain ⟨t, s⟩ := x
    rw [body_same]
  · exact absurd h (Nat.not_lt.2 (Nat.le_add_left _ _))

set_option maxHeartbeats 0 in
theorem main_same : Cert.Kernel.main (F := F) = Cert.KernelIdeal.main (F := F) := rfl

theorem defs_same : Cert.Kernel.defs (F := F) = Cert.KernelIdeal.defs (F := F) :=
  congrArg (Pipeline.defs (Cert.KernelIdeal.pcfgs (F := F))) (table_same (F := F))

/-- What holds of a program's run holds of the run of an equal one. -/
theorem run_congr {nD : ℕ} {τ : Topo} {sig : RefSig} {Val : EltTy → Type} {Λ : Labels} {defs defs' : Defs nD τ sig Val Λ}
    (h : defs' = defs) {p p' : Dev nD → Prog (TpuEff nD τ sig Val Λ .tc) PUnit} (h' : p' = p) {s : MemSt nD τ sig Val}
    {Q : PUnit × MemSt nD τ sig Val → Prop} (hr : θ_run defs (onTc (τ := τ) p) s Q) : θ_run defs' (onTc (τ := τ) p') s Q := by
  subst h h'; exact hr

end Cert.Proof

end
-- ==== Proof.Frames.lean ====
/-
  Both readings of the program, and the reference, end quietly with their operands as they were.
-/
module

public import proofs.«01_k».proof.Defs
public import proofs.«01_k».proof.Proof.Launch
public import proofs.«01_k».proof.Proof.Same
public import proofs.«01_k».proof.Proof.Gen.ReferenceIdeal.Run

@[expose] public section

noncomputable section

namespace Cert.Proof

open Idealize.ShloMosaic Idealize.ShloMosaic.TcCoe Idealize.SL.Sem

theorem frame_kernel : Cert.quiescent_Kernel := fun m ρ _ =>
  run_congr (defs_same (F := Bits)) (main_same (F := Bits)) (s := ⟨m, fun _ => 0, ρ⟩)
    ((θ_run Cert.KernelIdeal.defs _ _).mono (fun _ h => ⟨fun c => ⟨(h.1 c).1, (h.1 c).2.1⟩, h.2⟩) (run_main (F := Bits) m ρ))

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sums.lean ====
/-
  The exchange read over the reals: what travels around the ring is a sum of partial products, and the rows that a
  device computes are the sum over all devices.
-/
module

public import proofs.«01_k».proof.Proof.Region
public import Idealize.ShloMosaic.PureOps.Ideal
public import Idealize.ShloMosaic.Lib.Pointwise

@[expose] public section

noncomputable section

namespace Cert.Proof

open Cert.KernelIdeal Cert.KernelIdeal.Gen
open Idealize.ShloMosaic Idealize.ShloMosaic.TcCoe

section

variable {F : FTy → Type} [FloatOps F]
variable (A : Dev nD → opA.view.ty.Contents (Elt F)) (B : Dev nD → opB.view.ty.Contents (Elt F))

/-- Some contents of the result have all pieces in place. -/
theorem got_exists (c : Dev nD) (f₀ : opO.view.ty.Contents (Elt F)) : ∀ n ≤ 32, ∃ f, Got A B c n f
  | 0, _ => ⟨f₀, fun _ h => absurd h (Nat.not_lt_zero _)⟩
  | n + 1, h => by
    obtain ⟨f, hf⟩ := got_exists c f₀ n (by omega)
    exact ⟨_, hf.step A B (by omega) rfl⟩

theorem outC_got (m : (ℓ : Loc nD τ sig) → Buf (Elt F) ℓ) (c : Dev nD) : Got (stA m) (stB m) c 32 (outC m c) := by
  obtain ⟨f, hf⟩ := got_exists (stA m) (stB m) c (V5 m c main_v28) 32 (Nat.le_refl _)
  exact outC_eq m hf ▸ hf

end

variable (A : Dev nD → opA.view.ty.Contents (Elt Ideal)) (B : Dev nD → opB.view.ty.Contents (Elt Ideal))

/-- Device `c`'s part of block `b` of the product. -/
def part (c : Dev nD) (b : Fin 32) : S64x2048.Idx → EReal := k0_pay3 (rowsA (A c) b) (allB (B c))

/-- What a slot holds, as a block of rows. -/
def held (h : ℕ) (c : Dev nD) : S64x2048.Idx → EReal := k0_pay1 (rsC A B h c)

theorem first_block (a : Vec Ideal S64x1024 .bf16) (b : Vec Ideal S1024x2048 .bf16) (i : S64x2048.Idx) :
    (k0_pay1 (k0_pay2 a b) i : EReal) = k0_pay3 a b i := by
  unfold k0_pay1 k0_pay2
  exact congrFun (shapeCast_shapeCast _ _ _) i

theorem next_block (x : FVec Ideal S64x2048 .f32) (v : Vec Ideal S1x64x2048 .bf16) (i : S64x2048.Idx) :
    (k0_pay1 (k0_pay4 x v) i : EReal) = (k0_pay1 v i : EReal) + x i := by
  unfold k0_pay1 k0_pay4
  exact congrFun (shapeCast_shapeCast _ _ _) i

theorem held_zero (c : Dev nD) (i : S64x2048.Idx) : held A B 0 c i = part A B c (bk (pos c) 0) i := first_block _ _ i
theorem held_succ (h : ℕ) (c : Dev nD) (i : S64x2048.Idx) :
    held A B (h + 1) c i = held A B h (lft c) i + part A B c (bk (pos c) (h + 1)) i := next_block _ _ i

theorem bk_lft (c : Dev nD) (h : ℕ) : bk (pos (lft c)) h = bk (pos c) (h + 1) := by
  rw [pos_lft]
  refine Fin.ext ?_
  show ((pos c - 1).val + 31 * h) % 32 = ((pos c).val + 31 * (h + 1)) % 32
  have e : (pos c - 1).val = ((pos c).val + 31) % 32 := by
    generalize pos c = p; revert p; decide
  rw [e]; omega

/-- A slot holds the sum of the parts of the devices it came past. -/
theorem held_sum (i : S64x2048.Idx) : ∀ (h : ℕ) (c : Dev nD), held A B h c i = ∑ j ∈ Finset.range (h + 1), part A B (lft^[j] c) (bk (pos c) h) i
  | 0, c => by rw [held_zero]; simp
  | h + 1, c => by
    rw [held_succ, held_sum i h (lft c), Finset.sum_range_succ' _ (h + 1), bk_lft]
    rfl

theorem lft_iter (c : Dev nD) : ∀ j : ℕ, lft^[j] c = cyc (pos c - (Fin.ofNat 32 j))
  | 0 => by
    show c = cyc (pos c - 0)
    rw [sub_zero, cyc_pos]
  | j + 1 => by
    rw [Function.iterate_succ_apply', lft_iter c j, lft, pos_cyc]
    congr 1
    have e : (Fin.ofNat 32 (j + 1)) = Fin.ofNat 32 j + 1 := Fin.ext (by simp [Fin.val_add])
    rw [e]; abel

/-- A full round of the ring meets every device once. -/
theorem sum_round (c : Dev nD) (f : Dev nD → EReal) : ∑ j ∈ Finset.range 32, f (lft^[j] c) = ∑ d : Dev nD, f d := by
  rw [Finset.sum_range]
  refine Fintype.sum_equiv ((Equiv.subLeft (pos c)).trans ringEquiv) _ _ fun j => ?_
  rw [lft_iter]
  congr 2
  show pos c - Fin.ofNat 32 j.val = pos c - j
  congr 1
  exact Fin.ext (Nat.mod_eq_of_lt j.isLt)

/-- Block `b` of the whole product. -/
def total (b : Fin 32) (i : S64x2048.Idx) : EReal := ∑ d : Dev nD, part A B d b i

/-- The tanh form of the activation, with the words of its constants. -/
def act (z : EReal) : EReal :=
  (FloatOps.ofBits (F := Ideal) .f32 0x3F000000#32 : EReal) * z
    * ((FloatOps.ofBits (F := Ideal) .f32 0x3F800000#32 : EReal)
      + Ideal.tanh ((FloatOps.ofBits (F := Ideal) .f32 0x3F4C422A#32 : EReal)
        * (z + (FloatOps.ofBits (F := Ideal) .f32 0x3D372713#32 : EReal) * z * z * z)))

theorem last_block (x : FVec Ideal S64x2048 .f32) (v : Vec Ideal S1x64x2048 .bf16) (i : S64x2048.Idx) :
    (k0_pay64 x v i : EReal) = act ((k0_pay1 v i : EReal) + x i) := rfl

theorem own_total (c : Dev nD) (i : S64x2048.Idx) : (own A B c i : EReal) = act (total A B (bk (pos c) 31) i) := by
  unfold own total
  rw [last_block]
  congr 1
  show held A B 30 (lft c) i + part A B c (bk (pos c) 31) i = _
  rw [← held_succ A B 30 c i, held_sum, sum_round c (fun d => part A B d (bk (pos c) 31) i)]

theorem agC_own : ∀ (j : ℕ) (c : Dev nD), k0_pay1 (agC A B j c) = own A B (lft^[j] c)
  | 0, c => pay1_pay65 _
  | j + 1, c => agC_own j (lft c)

theorem bk_iter : ∀ (j : ℕ) (c : Dev nD) (h : ℕ), bk (pos (lft^[j] c)) h = bk (pos c) (j + h)
  | 0, c, h => by rw [Nat.zero_add]; rfl
  | j + 1, c, h => by
    show bk (pos (lft^[j] (lft c))) h = _
    rw [bk_iter j (lft c) h, bk_lft]
    congr 1; omega

/-- Every element of a complete result. -/
theorem Got.value {c : Dev nD} {f : opO.view.ty.Contents (Elt Ideal)} (hf : Got A B c 32 f) (i : S2048x2048.Idx) :
    (f i : EReal) = act (total A B (blockOf i) (inBlock i)) := by
  obtain ⟨j, hj, e⟩ := bk_surj (pos c) (blockOf i)
  rw [← rowsO_inBlock f i, ← e, hf j hj, agC_own, own_total, bk_iter]

end Cert.Proof

end
-- ==== Proof.Product.lean ====
/-
  The product cut along its inner dimension: the parts of all devices sum to the whole product.
-/
module

public import proofs.«01_k».proof.Defs
public import proofs.«01_k».proof.Proof.Gen.ReferenceIdeal.Run
public import proofs.«01_k».proof.Proof.Sums
public import Mathlib.Algebra.BigOperators.Fin
public import Mathlib.Logic.Equiv.Fin.Basic

@[expose] public section

noncomputable section

namespace Cert.Proof

open Cert.KernelIdeal Cert.KernelIdeal.Gen
open Idealize.ShloMosaic Idealize.ShloMosaic.TcCoe

/-- An element of a device's part is a sum over the device's share of the inner dimension. -/
theorem part_eq (A : Dev nD → opA.view.ty.Contents (Elt Ideal)) (B : Dev nD → opB.view.ty.Contents (Elt Ideal)) (c : Dev nD) (b : Fin 32)
    (i : S64x2048.Idx) :
    part A B c b i = ∑ k : Fin 1024, (rowsA (A c) b (Shape.pair (i 0) k) : EReal) * (allB (B c) (Shape.pair k (i 1)) : EReal) := by
  have e : part A B c b i = Ideal.matmul dot_S64x1024_S1024x2048_S64x2048_1_0_0_1_n_n (rowsA (A c) b) (allB (B c))
      (fun _ => (FloatOps.ofBits (F := Ideal) .f32 0#32 : EReal)) i := by
    unfold part k0_pay3
    simp only [shapeCast_self]
    rfl
  rw [e, Ideal.matmul_apply₁_of dot_S64x1024_S1024x2048_S64x2048_1_0_0_1_n_n (a := 1) rfl (K := 1024) rfl _ _ _ i
    (fun k => Shape.pair (i 0) k) (fun k => Shape.pair k (i 1))
    (fun k => by refine funext fun a => ?_; fin_cases a <;> rfl) (fun k => by refine funext fun a => ?_; fin_cases a <;> rfl)]
  have z : (FloatOps.ofBits (F := Ideal) .f32 0#32 : EReal) = 0 := by simp
  rw [z, zero_add]

/-- An element of the reference's product is a sum over the whole inner dimension. -/
theorem whole_eq (A : Cert.ReferenceIdeal.S2048x32768.Idx → EReal) (B : Cert.ReferenceIdeal.S32768x2048.Idx → EReal)
    (i : Cert.ReferenceIdeal.S2048x2048.Idx) :
    (Host.dotGeneral (F := Ideal) (φ₁ := .f32) (φ₂ := .f32) Cert.ReferenceIdeal.dot_S2048x32768_S32768x2048_S2048x2048_1_0_0_1_n_n none A B i : EReal)
      = ∑ K : Fin 32768, A (Shape.pair (i 0) K) * B (Shape.pair K (i 1)) := by
  show Ideal.matmul Cert.ReferenceIdeal.dot_S2048x32768_S32768x2048_S2048x2048_1_0_0_1_n_n A B (fun _ => 0) i = _
  rw [Ideal.matmul_apply₁_of Cert.ReferenceIdeal.dot_S2048x32768_S32768x2048_S2048x2048_1_0_0_1_n_n (a := 1) rfl (K := 32768) rfl _ _ _ i
    (fun k => Shape.pair (i 0) k) (fun k => Shape.pair k (i 1))
    (fun k => by refine funext fun a => ?_; fin_cases a <;> rfl) (fun k => by refine funext fun a => ?_; fin_cases a <;> rfl), zero_add]

/-- A sum over the whole inner dimension, share by share. -/
theorem sum_shares (f : Fin 32768 → EReal) :
    ∑ K, f K = ∑ d : Fin 32, ∑ k : Fin 1024, f ⟨d.val * 1024 + k.val, by omega⟩ := by
  rw [← Fintype.sum_prod_type' (fun (d : Fin 32) (k : Fin 1024) => f ⟨d.val * 1024 + k.val, by omega⟩)]
  refine (Fintype.sum_equiv (finProdFinEquiv (m := 32) (n := 1024)) _ _ fun x => ?_).symm
  congr 1
  refine Fin.ext ?_
  show x.1.val * 1024 + x.2.val = x.2.val + 1024 * x.1.val
  omega

/-- With the factors cut into shares, the parts of all devices sum to the whole product. -/
theorem total_eq (A : Cert.ReferenceIdeal.S2048x32768.Idx → EReal) (B : Cert.ReferenceIdeal.S32768x2048.Idx → EReal)
    (a : Dev nD → opA.view.ty.Contents (Elt Ideal)) (b : Dev nD → opB.view.ty.Contents (Elt Ideal))
    (ha : ∀ c : Dev nD, a c = Layout.block ⟨2, ![2048, 1024]⟩ ⟨2, ![2048, 32768]⟩ 1 32 c A)
    (hb : ∀ c : Dev nD, b c = Layout.block ⟨2, ![1024, 2048]⟩ ⟨2, ![32768, 2048]⟩ 0 32 c B) (i : S2048x2048.Idx) :
    total a b (blockOf i) (inBlock i) = ∑ K : Fin 32768, A (Shape.pair (i 0) K) * B (Shape.pair K (i 1)) := by
  rw [sum_shares, total]
  refine Finset.sum_congr rfl fun d _ => ?_
  rw [part_eq]
  refine Finset.sum_congr rfl fun k _ => ?_
  congr 1
  · rw [ha d]
    show A _ = A _
    congr 1
    refine funext fun x => Fin.ext ?_
    fin_cases x
    · show 64 * ((i 0).val / 64) + 1 * ((i 0).val % 64) = (i 0).val; omega
    · show d.val * 1024 + (0 + 1 * k.val) = d.val * 1024 + k.val; omega
  · rw [hb d]
    show B _ = B _
    congr 1
    refine funext fun x => Fin.ext ?_
    fin_cases x
    · show d.val * 1024 + (0 + 1 * k.val) = d.val * 1024 + k.val; omega
    · show 0 + 1 * (i 1).val = (i 1).val; omega

end Cert.Proof

end
-- ==== Proof.Value.lean ====
/-
  Over the extended reals every device's result is the whole result of the reference.
-/
module

public import proofs.«01_k».proof.Defs
public import proofs.«01_k».proof.Proof.Launch
public import proofs.«01_k».proof.Proof.Product
public import proofs.«01_k».proof.Proof.Gen.ReferenceIdeal.Run

@[expose] public section

noncomputable section

namespace Cert.Proof

open Cert.KernelIdeal Cert.KernelIdeal.Gen
open Idealize.ShloMosaic Idealize.ShloMosaic.TcCoe Idealize.SL.Sem

/-- The first factor reaches the staged loads as launched. -/
theorem stA_eq (m : (ℓ : Loc nD τ sig) → Buf (Elt Ideal) ℓ) (c : Dev nD) : stA m c = m ((c.tc : Thread nD τ).loc main_arg0) :=
  (V6_of m (outs m) c main_arg0 (by decide)).symm.trans (V6_main_arg0 m _ c)

theorem stB_eq (m : (ℓ : Loc nD τ sig) → Buf (Elt Ideal) ℓ) (c : Dev nD) : stB m c = m ((c.tc : Thread nD τ).loc main_arg1) :=
  (V6_of m (outs m) c main_arg1 (by decide)).symm.trans (V6_main_arg1 m _ c)

/-- The reference's activation, element by element. -/
theorem act_ref (D : FVec Ideal Cert.ReferenceIdeal.S2048x2048 .f32) :
    truncf .bf16 (mulf (mulf (broadcastInDim Cert.ReferenceIdeal.S2048x2048 ![] Cert.ReferenceIdeal.Facts₀.bcast_S_S2048x2048 (constant Cert.ReferenceIdeal.S_ .f32 0x3F000000#32)) D)
      (addf (broadcastInDim Cert.ReferenceIdeal.S2048x2048 ![] Cert.ReferenceIdeal.Facts₀.bcast_S_S2048x2048 (constant Cert.ReferenceIdeal.S_ .f32 0x3F800000#32))
        (Host.tanh (mulf (broadcastInDim Cert.ReferenceIdeal.S2048x2048 ![] Cert.ReferenceIdeal.Facts₀.bcast_S_S2048x2048 (constant Cert.ReferenceIdeal.S_ .f32 0x3F4C422A#32))
          (addf D (mulf (mulf (mulf (broadcastInDim Cert.ReferenceIdeal.S2048x2048 ![] Cert.ReferenceIdeal.Facts₀.bcast_S_S2048x2048 (constant Cert.ReferenceIdeal.S_ .f32 0x3D372713#32)) D) D) D)))))) Cert.ReferenceIdeal.Facts₀.bitsLt_bf16_f32 = fun i => act (D i) := by
  funext i
  rfl

/-- The reference's result. -/
def refOut (A : Cert.ReferenceIdeal.S2048x32768.Idx → EReal) (B : Cert.ReferenceIdeal.S32768x2048.Idx → EReal)
    (i : Cert.ReferenceIdeal.S2048x2048.Idx) : EReal :=
  act (Host.dotGeneral (F := Ideal) (φ₁ := .f32) (φ₂ := .f32) Cert.ReferenceIdeal.dot_S2048x32768_S32768x2048_S2048x2048_1_0_0_1_n_n none A B i)

/-- Every device's result is the reference's. -/
theorem outC_ref (m : (ℓ : Loc nD τ sig) → Buf (Elt Ideal) ℓ) (A : Cert.ReferenceIdeal.S2048x32768.Idx → EReal)
    (B : Cert.ReferenceIdeal.S32768x2048.Idx → EReal)
    (h : ∀ c : Dev nD, m ((c.tc : Thread nD τ).loc main_arg0) = Layout.block ⟨2, ![2048, 1024]⟩ ⟨2, ![2048, 32768]⟩ 1 32 c A
      ∧ m ((c.tc : Thread nD τ).loc main_arg1) = Layout.block ⟨2, ![1024, 2048]⟩ ⟨2, ![32768, 2048]⟩ 0 32 c B) (c : Dev nD) :
    outC m c = refOut A B := by
  refine funext fun i => ?_
  refine ((outC_got m c).value _ _ i).trans ?_
  rw [total_eq A B (stA m) (stB m) (fun d => (stA_eq m d).trans (h d).1) (fun d => (stB_eq m d).trans (h d).2) i]
  unfold refOut
  rw [whole_eq]

theorem algebraic : Cert.algebraic_KernelIdeal_ReferenceIdeal := fun m g m' g' _ h =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ r c => ⟨(r.1 c).2.2.trans (outC_ref m _ _ h c), (r.1 c).1, (r.1 c).2.1⟩) (run_main (F := Ideal) m g),
    (θ_run Cert.ReferenceIdeal.defs _ _).mono (fun _ r => ⟨(r 0).1.trans (act_ref _), (r 0).2⟩)
      (Cert.ReferenceIdeal.Value.run (F := Ideal) m' g')⟩

end Cert.Proof

end
-- ==== Proof.lean ====
/- The claim: the run of both readings of the program, and that of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
